-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S4096x200x45 : Shape := ⟨3, ![4096, 200, 45]⟩
abbrev S13x128 : Shape := ⟨2, ![13, 128]⟩
abbrev S45x128 : Shape := ⟨2, ![45, 128]⟩
abbrev S128 : Shape := ⟨1, ![128]⟩
abbrev S200x128 : Shape := ⟨2, ![200, 128]⟩
abbrev S45x200x4096 : Shape := ⟨3, ![45, 200, 4096]⟩
abbrev S200x4096 : Shape := ⟨2, ![200, 4096]⟩
abbrev S1x45x128 : Shape := ⟨3, ![1, 45, 128]⟩
abbrev S200x45x128 : Shape := ⟨3, ![200, 45, 128]⟩
abbrev S1x13x128 : Shape := ⟨3, ![1, 13, 128]⟩
abbrev S200x13x128 : Shape := ⟨3, ![200, 13, 128]⟩
abbrev S1x128 : Shape := ⟨2, ![1, 128]⟩
abbrev S200x1x128 : Shape := ⟨3, ![200, 1, 128]⟩
abbrev S200x59x128 : Shape := ⟨3, ![200, 59, 128]⟩
abbrev S4096x200x128 : Shape := ⟨3, ![4096, 200, 128]⟩
abbrev S8x4096 : Shape := ⟨2, ![8, 4096]⟩
abbrev S8x59x128 : Shape := ⟨3, ![8, 59, 128]⟩
abbrev S24x45x4096 : Shape := ⟨3, ![24, 45, 4096]⟩
abbrev S16x4096x128 : Shape := ⟨3, ![16, 4096, 128]⟩
abbrev S24 : Shape := ⟨1, ![24]⟩
abbrev S16 : Shape := ⟨1, ![16]⟩
abbrev S1 : Shape := ⟨1, ![1]⟩
abbrev S_ : Shape := ⟨0, ![]⟩
abbrev S1x45x4096 : Shape := ⟨3, ![1, 45, 4096]⟩
abbrev S45x4096 : Shape := ⟨2, ![45, 4096]⟩
abbrev S45x1x4096 : Shape := ⟨3, ![45, 1, 4096]⟩
abbrev S4096x1x128 : Shape := ⟨3, ![4096, 1, 128]⟩
abbrev S4096x128 : Shape := ⟨2, ![4096, 128]⟩
abbrev S1x4096x128 : Shape := ⟨3, ![1, 4096, 128]⟩
abbrev S1x4096 : Shape := ⟨2, ![1, 4096]⟩
abbrev S13x4096 : Shape := ⟨2, ![13, 4096]⟩
abbrev S59x4096 : Shape := ⟨2, ![59, 4096]⟩
abbrev S1x59x128 : Shape := ⟨3, ![1, 59, 128]⟩
abbrev S59x128 : Shape := ⟨2, ![59, 128]⟩

abbrev nBuf : Space → Nat
  | .hbm => 18
  | .vmem => 6
  | .smem => 0
  | _ => 0

abbrev bufTy : (tb : Table) → Fin (tcTables nBuf tb) → BufTy
  | .hbm, ⟨0, _⟩ => ⟨S4096x200, .i32⟩
  | .hbm, ⟨1, _⟩ => ⟨S4096x200x45, .f32⟩
  | .hbm, ⟨2, _⟩ => ⟨S13x128, .f32⟩
  | .hbm, ⟨3, _⟩ => ⟨S45x128, .f32⟩
  | .hbm, ⟨4, _⟩ => ⟨S128, .f32⟩
  | .hbm, ⟨5, _⟩ => ⟨S200x128, .f32⟩
  | .hbm, ⟨6, _⟩ => ⟨S45x200x4096, .f32⟩
  | .hbm, ⟨7, _⟩ => ⟨S200x4096, .i32⟩
  | .hbm, ⟨8, _⟩ => ⟨S1x45x128, .f32⟩
  | .hbm, ⟨9, _⟩ => ⟨S200x45x128, .f32⟩
  | .hbm, ⟨10, _⟩ => ⟨S1x13x128, .f32⟩
  | .hbm, ⟨11, _⟩ => ⟨S200x13x128, .f32⟩
  | .hbm, ⟨12, _⟩ => ⟨S1x128, .f32⟩
  | .hbm, ⟨13, _⟩ => ⟨S200x128, .f32⟩
  | .hbm, ⟨14, _⟩ => ⟨S200x128, .f32⟩
  | .hbm, ⟨15, _⟩ => ⟨S200x1x128, .f32⟩
  | .hbm, ⟨16, _⟩ => ⟨S200x59x128, .f32⟩
  | .hbm, ⟨17, _⟩ => ⟨S4096x200x128, .f32⟩
  | .local _ .vmem, ⟨0, _⟩ => ⟨S8x4096, .i32⟩
  | .local _ .vmem, ⟨1, _⟩ => ⟨S8x4096, .i32⟩
  | .local _ .vmem, ⟨2, _⟩ => ⟨S8x59x128, .f32⟩
  | .local _ .vmem, ⟨3, _⟩ => ⟨S8x59x128, .f32⟩
  | .local _ .vmem, ⟨4, _⟩ => ⟨S24x45x4096, .f32⟩
  | .local _ .vmem, ⟨5, _⟩ => ⟨S16x4096x128, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c8_i32 : BitVec 32 := 8#32
  let v0 : BitVec 32 := Scalar.muli arg0 c8_i32
  let c0_i32_1 : BitVec 32 := 0#32
  let v4 : BitVec 32 := Scalar.addi v0 c0_i32_1
  let c16_i32 : BitVec 32 := 16#32
  let v5 : BitVec 32 := Scalar.addi v4 c16_i32
  let c200_i32 : BitVec 32 := 200#32
  let v6 : BitVec 1 := Scalar.cmpi .slt v5 c200_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32_1 : BitVec 32 := 0#32
  let v4 : BitVec 32 := Scalar.addi v0 c0_i32_1
  let c16_i32 : BitVec 32 := 16#32
  let v5 : BitVec 32 := Scalar.addi v4 c16_i32
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v5 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off2 (i : grid0.Coords) : Fin 3 → Nat :=
  let arg0 : BitVec 32 := BitVec.ofNat 32 (i 0).val
  let c8_i32 : BitVec 32 := 8#32
  let v0 : BitVec 32 := Scalar.muli arg0 c8_i32
  let c0_i32_1 : BitVec 32 := 0#32
  let v4 : BitVec 32 := Scalar.addi v0 c0_i32_1
  let c16_i32 : BitVec 32 := 16#32
  let v5 : BitVec 32 := Scalar.addi v4 c16_i32
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v5 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off3 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c0_i32_1 : BitVec 32 := 0#32
  let v4 : BitVec 32 := Scalar.addi v0 c0_i32_1
  let c16_i32 : BitVec 32 := 16#32
  let v5 : BitVec 32 := Scalar.addi v4 c16_i32
  let c0_i32_566 : BitVec 32 := 0#32
  ![0, v5.toNat, 0]
def k0_cond3 (i : grid0.Coords) : BitVec 1 :=
  let arg0 : BitVec 32 := BitVec.ofNat 32 (i 0).val
  let c8_i32 : BitVec 32 := 8#32
  let v0 : BitVec 32 := Scalar.muli arg0 c8_i32
  let c1_i32 : BitVec 32 := 1#32
  let v9 : BitVec 32 := Scalar.addi v0 c1_i32
  let c16_i32_3 : BitVec 32 := 16#32
  let v10 : BitVec 32 := Scalar.addi v9 c16_i32_3
  let c200_i32_4 : BitVec 32 := 200#32
  let v11 : BitVec 1 := Scalar.cmpi .slt v10 c200_i32_4
  let v12 : BitVec 32 := Scalar.extui v11
  let c0_i32_5 : BitVec 32 := 0#32
  let v13 : BitVec 1 := Scalar.cmpi .ne v12 c0_i32_5
  v13

def k0_off4 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v9 : BitVec 32 := Scalar.addi v0 c1_i32
  let c16_i32_3 : BitVec 32 := 16#32
  let v10 : BitVec 32 := Scalar.addi v9 c16_i32_3
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v10 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off5 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v9 : BitVec 32 := Scalar.addi v0 c1_i32
  let c16_i32_3 : BitVec 32 := 16#32
  let v10 : BitVec 32 := Scalar.addi v9 c16_i32_3
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v10 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off6 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c1_i32 : BitVec 32 := 1#32
  let v9 : BitVec 32 := Scalar.addi v0 c1_i32
  let c16_i32_3 : BitVec 32 := 16#32
  let v10 : BitVec 32 := Scalar.addi v9 c16_i32_3
  let c0_i32_566 : BitVec 32 := 0#32
  ![0, v10.toNat, 0]
def k0_cond4 (i : grid0.Coords) : BitVec 1 :=
  let arg0 : BitVec 32 := BitVec.ofNat 32 (i 0).val
  let c8_i32 : BitVec 32 := 8#32
  let v0 : BitVec 32 := Scalar.muli arg0 c8_i32
  let c2_i32 : BitVec 32 := 2#32
  let v14 : BitVec 32 := Scalar.addi v0 c2_i32
  let c16_i32_6 : BitVec 32 := 16#32
  let v15 : BitVec 32 := Scalar.addi v14 c16_i32_6
  let c200_i32_7 : BitVec 32 := 200#32
  let v16 : BitVec 1 := Scalar.cmpi .slt v15 c200_i32_7
  let v17 : BitVec 32 := Scalar.extui v16
  let c0_i32_8 : BitVec 32 := 0#32
  let v18 : BitVec 1 := Scalar.cmpi .ne v17 c0_i32_8
  v18

def k0_off7 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v14 : BitVec 32 := Scalar.addi v0 c2_i32
  let c16_i32_6 : BitVec 32 := 16#32
  let v15 : BitVec 32 := Scalar.addi v14 c16_i32_6
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v15 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off8 (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v14 : BitVec 32 := Scalar.addi v0 c2_i32
  let c16_i32_6 : BitVec 32 := 16#32
  let v15 : BitVec 32 := Scalar.addi v14 c16_i32_6
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v15 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off9 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c2_i32 : BitVec 32 := 2#32
  let v14 : BitVec 32 := Scalar.addi v0 c2_i32
  let c16_i32_6 : BitVec 32 := 16#32
  let v15 : BitVec 32 := Scalar.addi v14 c16_i32_6
  let c0_i32_566 : BitVec 32 := 0#32
  ![0, v15.toNat, 0]
def k0_cond5 (i : grid0.Coords) : BitVec 1 :=
  let arg0 : BitVec 32 := BitVec.ofNat 32 (i 0).val
  let c8_i32 : BitVec 32 := 8#32
  let v0 : BitVec 32 := Scalar.muli arg0 c8_i32
  let c3_i32 : BitVec 32 := 3#32
  let v19 : BitVec 32 := Scalar.addi v0 c3_i32
  let c16_i32_9 : BitVec 32 := 16#32
  let v20 : BitVec 32 := Scalar.addi v19 c16_i32_9
  let c200_i32_10 : BitVec 32 := 200#32
  let v21 : BitVec 1 := Scalar.cmpi .slt v20 c200_i32_10
  let v22 : BitVec 32 := Scalar.extui v21
  let c0_i32_11 : BitVec 32 := 0#32
  let v23 : BitVec 1 := Scalar.cmpi .ne v22 c0_i32_11
  v23

def k0_off10 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v19 : BitVec 32 := Scalar.addi v0 c3_i32
  let c16_i32_9 : BitVec 32 := 16#32
  let v20 : BitVec 32 := Scalar.addi v19 c16_i32_9
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v20 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off11 (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v19 : BitVec 32 := Scalar.addi v0 c3_i32
  let c16_i32_9 : BitVec 32 := 16#32
  let v20 : BitVec 32 := Scalar.addi v19 c16_i32_9
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v20 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off12 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c3_i32 : BitVec 32 := 3#32
  let v19 : BitVec 32 := Scalar.addi v0 c3_i32
  let c16_i32_9 : BitVec 32 := 16#32
  let v20 : BitVec 32 := Scalar.addi v19 c16_i32_9
  let c0_i32_566 : BitVec 32 := 0#32
  ![0, v20.toNat, 0]
def k0_cond6 (i : grid0.Coords) : BitVec 1 :=
  let arg0 : BitVec 32 := BitVec.ofNat 32 (i 0).val
  let c8_i32 : BitVec 32 := 8#32
  let v0 : BitVec 32 := Scalar.muli arg0 c8_i32
  let c4_i32 : BitVec 32 := 4#32
  let v24 : BitVec 32 := Scalar.addi v0 c4_i32
  let c16_i32_12 : BitVec 32 := 16#32
  let v25 : BitVec 32 := Scalar.addi v24 c16_i32_12
  let c200_i32_13 : BitVec 32 := 200#32
  let v26 : BitVec 1 := Scalar.cmpi .slt v25 c200_i32_13
  let v27 : BitVec 32 := Scalar.extui v26
  let c0_i32_14 : BitVec 32 := 0#32
  let v28 : BitVec 1 := Scalar.cmpi .ne v27 c0_i32_14
  v28

def k0_off13 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v24 : BitVec 32 := Scalar.addi v0 c4_i32
  let c16_i32_12 : BitVec 32 := 16#32
  let v25 : BitVec 32 := Scalar.addi v24 c16_i32_12
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v25 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off14 (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v24 : BitVec 32 := Scalar.addi v0 c4_i32
  let c16_i32_12 : BitVec 32 := 16#32
  let v25 : BitVec 32 := Scalar.addi v24 c16_i32_12
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v25 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off15 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c4_i32 : BitVec 32 := 4#32
  let v24 : BitVec 32 := Scalar.addi v0 c4_i32
  let c16_i32_12 : BitVec 32 := 16#32
  let v25 : BitVec 32 := Scalar.addi v24 c16_i32_12
  let c0_i32_566 : BitVec 32 := 0#32
  ![0, v25.toNat, 0]
def k0_cond7 (i : grid0.Coords) : BitVec 1 :=
  let arg0 : BitVec 32 := BitVec.ofNat 32 (i 0).val
  let c8_i32 : BitVec 32 := 8#32
  let v0 : BitVec 32 := Scalar.muli arg0 c8_i32
  let c5_i32 : BitVec 32 := 5#32
  let v29 : BitVec 32 := Scalar.addi v0 c5_i32
  let c16_i32_15 : BitVec 32 := 16#32
  let v30 : BitVec 32 := Scalar.addi v29 c16_i32_15
  let c200_i32_16 : BitVec 32 := 200#32
  let v31 : BitVec 1 := Scalar.cmpi .slt v30 c200_i32_16
  let v32 : BitVec 32 := Scalar.extui v31
  let c0_i32_17 : BitVec 32 := 0#32
  let v33 : BitVec 1 := Scalar.cmpi .ne v32 c0_i32_17
  v33

def k0_off16 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v29 : BitVec 32 := Scalar.addi v0 c5_i32
  let c16_i32_15 : BitVec 32 := 16#32
  let v30 : BitVec 32 := Scalar.addi v29 c16_i32_15
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v30 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off17 (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v29 : BitVec 32 := Scalar.addi v0 c5_i32
  let c16_i32_15 : BitVec 32 := 16#32
  let v30 : BitVec 32 := Scalar.addi v29 c16_i32_15
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v30 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off18 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c5_i32 : BitVec 32 := 5#32
  let v29 : BitVec 32 := Scalar.addi v0 c5_i32
  let c16_i32_15 : BitVec 32 := 16#32
  let v30 : BitVec 32 := Scalar.addi v29 c16_i32_15
  let c0_i32_566 : BitVec 32 := 0#32
  ![0, v30.toNat, 0]
def k0_cond8 (i : grid0.Coords) : BitVec 1 :=
  let arg0 : BitVec 32 := BitVec.ofNat 32 (i 0).val
  let c8_i32 : BitVec 32 := 8#32
  let v0 : BitVec 32 := Scalar.muli arg0 c8_i32
  let c6_i32 : BitVec 32 := 6#32
  let v34 : BitVec 32 := Scalar.addi v0 c6_i32
  let c16_i32_18 : BitVec 32 := 16#32
  let v35 : BitVec 32 := Scalar.addi v34 c16_i32_18
  let c200_i32_19 : BitVec 32 := 200#32
  let v36 : BitVec 1 := Scalar.cmpi .slt v35 c200_i32_19
  let v37 : BitVec 32 := Scalar.extui v36
  let c0_i32_20 : BitVec 32 := 0#32
  let v38 : BitVec 1 := Scalar.cmpi .ne v37 c0_i32_20
  v38

def k0_off19 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v34 : BitVec 32 := Scalar.addi v0 c6_i32
  let c16_i32_18 : BitVec 32 := 16#32
  let v35 : BitVec 32 := Scalar.addi v34 c16_i32_18
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v35 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off20 (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v34 : BitVec 32 := Scalar.addi v0 c6_i32
  let c16_i32_18 : BitVec 32 := 16#32
  let v35 : BitVec 32 := Scalar.addi v34 c16_i32_18
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v35 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off21 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c6_i32 : BitVec 32 := 6#32
  let v34 : BitVec 32 := Scalar.addi v0 c6_i32
  let c16_i32_18 : BitVec 32 := 16#32
  let v35 : BitVec 32 := Scalar.addi v34 c16_i32_18
  let c0_i32_566 : BitVec 32 := 0#32
  ![0, v35.toNat, 0]
def k0_cond9 (i : grid0.Coords) : BitVec 1 :=
  let arg0 : BitVec 32 := BitVec.ofNat 32 (i 0).val
  let c8_i32 : BitVec 32 := 8#32
  let v0 : BitVec 32 := Scalar.muli arg0 c8_i32
  let c7_i32 : BitVec 32 := 7#32
  let v39 : BitVec 32 := Scalar.addi v0 c7_i32
  let c16_i32_21 : BitVec 32 := 16#32
  let v40 : BitVec 32 := Scalar.addi v39 c16_i32_21
  let c200_i32_22 : BitVec 32 := 200#32
  let v41 : BitVec 1 := Scalar.cmpi .slt v40 c200_i32_22
  let v42 : BitVec 32 := Scalar.extui v41
  let c0_i32_23 : BitVec 32 := 0#32
  let v43 : BitVec 1 := Scalar.cmpi .ne v42 c0_i32_23
  v43

def k0_off22 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v39 : BitVec 32 := Scalar.addi v0 c7_i32
  let c16_i32_21 : BitVec 32 := 16#32
  let v40 : BitVec 32 := Scalar.addi v39 c16_i32_21
  let c24_i32_557 : BitVec 32 := 24#32
  let c0_i32_558 : BitVec 32 := 0#32
  let v969 : BitVec 1 := Scalar.cmpi .eq c24_i32_557 c0_i32_558
  let c1_i32_559 : BitVec 32 := 1#32
  let v970 : BitVec 32 := Scalar.select v969 c1_i32_559 c24_i32_557
  let v971 : BitVec 32 := Scalar.remsi v40 v970
  let c0_i32_561 : BitVec 32 := 0#32
  let v973 : BitVec 1 := Scalar.cmpi .slt v971 c0_i32_561
  let c0_i32_562 : BitVec 32 := 0#32
  let v974 : BitVec 1 := Scalar.cmpi .slt v970 c0_i32_562
  let v975 : BitVec 1 := Scalar.xori v973 v974
  let c0_i32_560 : BitVec 32 := 0#32
  let v972 : BitVec 1 := Scalar.cmpi .ne v971 c0_i32_560
  let v976 : BitVec 1 := Scalar.andi v975 v972
  let v977 : BitVec 32 := Scalar.addi v971 v970
  let v978 : BitVec 32 := Scalar.select v976 v977 v971
  ![v978.toNat]
def k0_off23 (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v39 : BitVec 32 := Scalar.addi v0 c7_i32
  let c16_i32_21 : BitVec 32 := 16#32
  let v40 : BitVec 32 := Scalar.addi v39 c16_i32_21
  let c24_i32_551 : BitVec 32 := 24#32
  let c0_i32_552 : BitVec 32 := 0#32
  let v959 : BitVec 1 := Scalar.cmpi .eq c24_i32_551 c0_i32_552
  let c1_i32_553 : BitVec 32 := 1#32
  let v960 : BitVec 32 := Scalar.select v959 c1_i32_553 c24_i32_551
  let v961 : BitVec 32 := Scalar.remsi v40 v960
  let c0_i32_555 : BitVec 32 := 0#32
  let v963 : BitVec 1 := Scalar.cmpi .slt v961 c0_i32_555
  let c0_i32_556 : BitVec 32 := 0#32
  let v964 : BitVec 1 := Scalar.cmpi .slt v960 c0_i32_556
  let v965 : BitVec 1 := Scalar.xori v963 v964
  let c0_i32_554 : BitVec 32 := 0#32
  let v962 : BitVec 1 := Scalar.cmpi .ne v961 c0_i32_554
  let v966 : BitVec 1 := Scalar.andi v965 v962
  let v967 : BitVec 32 := Scalar.addi v961 v960
  let v968 : BitVec 32 := Scalar.select v966 v967 v961
  let c0_i32_563 : BitVec 32 := 0#32
  let c0_i32_564 : BitVec 32 := 0#32
  ![v968.toNat, 0, 0]
def k0_off24 (i : grid0.Coords) : Fin 3 → Nat :=
  let c0_i32_565 : BitVec 32 := 0#32
  let arg0 : BitVec 32 := BitVec.ofNat 32 (i 0).val
  let c8_i32 : BitVec 32 := 8#32
  let v0 : BitVec 32 := Scalar.muli arg0 c8_i32
  let c7_i32 : BitVec 32 := 7#32
  let v39 : BitVec 32 := Scalar.addi v0 c7_i32
  let c16_i32_21 : BitVec 32 := 16#32
  let v40 : BitVec 32 := Scalar.addi v39 c16_i32_21
  let c0_i32_566 : BitVec 32 := 0#32
  ![0, v40.toNat, 0]
def k0_cond10 (i : grid0.Coords) : BitVec 1 :=
  let arg0 : BitVec 32 := BitVec.ofNat 32 (i 0).val
  let c8_i32 : BitVec 32 := 8#32
  let v0 : BitVec 32 := Scalar.muli arg0 c8_i32
  let c0_i32_24 : BitVec 32 := 0#32
  let v44 : BitVec 32 := Scalar.addi v0 c0_i32_24
  let c16_i32_31 : BitVec 32 := 16#32
  let v55 : BitVec 1 := Scalar.cmpi .sge v44 c16_i32_31
  let v56 : BitVec 32 := Scalar.extui v55
  let c0_i32_32 : BitVec 32 := 0#32
  let v57 : BitVec 1 := Scalar.cmpi .ne v56 c0_i32_32
  v57

def k0_off25 (i : grid0.Coords) : Fin 1 → Nat :=
  let arg0 : BitVec 32 := BitVec.ofNat 32 (i 0).val
  let c8_i32 : BitVec 32 := 8#32
  let v0 : BitVec 32 := Scalar.muli arg0 c8_i32
  let c0_i32_24 : BitVec 32 := 0#32
  let v44 : BitVec 32 := Scalar.addi v0 c0_i32_24
  let c16_i32_551 : BitVec 32 := 16#32
  let v959 : BitVec 32 := Scalar.subi v44 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off26 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c0_i32_24 : BitVec 32 := 0#32
  let v44 : BitVec 32 := Scalar.addi v0 c0_i32_24
  let c16_i32_551 : BitVec 32 := 16#32
  let v959 : BitVec 32 := Scalar.subi v44 c16_i32_551
  let c0_i32_565 : BitVec 32 := 0#32
  ![0, v959.toNat, 0]
def k0_off27 (i : grid0.Coords) : Fin 3 → Nat :=
  let arg0 : BitVec 32 := BitVec.ofNat 32 (i 0).val
  let c8_i32 : BitVec 32 := 8#32
  let v0 : BitVec 32 := Scalar.muli arg0 c8_i32
  let c0_i32_24 : BitVec 32 := 0#32
  let v44 : BitVec 32 := Scalar.addi v0 c0_i32_24
  let c16_i32_551 : BitVec 32 := 16#32
  let v959 : BitVec 32 := Scalar.subi v44 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_off28 (i : grid0.Coords) (c0_i32_24 : BitVec 32) : Fin 1 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c24_i32_38 : BitVec 32 := 24#32
  let c0_i32_39 : BitVec 32 := 0#32
  let v68 : BitVec 1 := Scalar.cmpi .eq c24_i32_38 c0_i32_39
  let c1_i32_40 : BitVec 32 := 1#32
  let v69 : BitVec 32 := Scalar.select v68 c1_i32_40 c24_i32_38
  let v70 : BitVec 32 := Scalar.remsi v44 v69
  let c0_i32_42 : BitVec 32 := 0#32
  let v72 : BitVec 1 := Scalar.cmpi .slt v70 c0_i32_42
  let c0_i32_43 : BitVec 32 := 0#32
  let v73 : BitVec 1 := Scalar.cmpi .slt v69 c0_i32_43
  let v74 : BitVec 1 := Scalar.xori v72 v73
  let c0_i32_41 : BitVec 32 := 0#32
  let v71 : BitVec 1 := Scalar.cmpi .ne v70 c0_i32_41
  let v75 : BitVec 1 := Scalar.andi v74 v71
  let v76 : BitVec 32 := Scalar.addi v70 v69
  let v77 : BitVec 32 := Scalar.select v75 v76 v70
  ![v77.toNat]
def k0_off29 (i : grid0.Coords) (c0_i32_24 : BitVec 32) : Fin 3 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c24_i32 : BitVec 32 := 24#32
  let c0_i32_33 : BitVec 32 := 0#32
  let v58 : BitVec 1 := Scalar.cmpi .eq c24_i32 c0_i32_33
  let c1_i32_34 : BitVec 32 := 1#32
  let v59 : BitVec 32 := Scalar.select v58 c1_i32_34 c24_i32
  let v60 : BitVec 32 := Scalar.remsi v44 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let c0_i32_44 : BitVec 32 := 0#32
  let c0_i32_45 : BitVec 32 := 0#32
  ![v67.toNat, 0, 0]
def k0_off30 (i : grid0.Coords) (c0_i32_24 : BitVec 32) : Fin 3 → Nat :=
  let c0_i32_46 : BitVec 32 := 0#32
  let arg0 : BitVec 32 := BitVec.ofNat 32 (i 0).val
  let c8_i32 : BitVec 32 := 8#32
  let v0 : BitVec 32 := Scalar.muli arg0 c8_i32
  let v44 : BitVec 32 := Scalar.addi v0 c0_i32_24
  let c0_i32_47 : BitVec 32 := 0#32
  ![0, v44.toNat, 0]
def k0_off31 (i : grid0.Coords) (c0_i32_24 : BitVec 32) : Fin 3 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c24_i32_48 : BitVec 32 := 24#32
  let c0_i32_49 : BitVec 32 := 0#32
  let v84 : BitVec 1 := Scalar.cmpi .eq c24_i32_48 c0_i32_49
  let c1_i32_50 : BitVec 32 := 1#32
  let v85 : BitVec 32 := Scalar.select v84 c1_i32_50 c24_i32_48
  let v86 : BitVec 32 := Scalar.remsi v44 v85
  let c0_i32_52 : BitVec 32 := 0#32
  let v88 : BitVec 1 := Scalar.cmpi .slt v86 c0_i32_52
  let c0_i32_53 : BitVec 32 := 0#32
  let v89 : BitVec 1 := Scalar.cmpi .slt v85 c0_i32_53
  let v90 : BitVec 1 := Scalar.xori v88 v89
  let c0_i32_51 : BitVec 32 := 0#32
  let v87 : BitVec 1 := Scalar.cmpi .ne v86 c0_i32_51
  let v91 : BitVec 1 := Scalar.andi v90 v87
  let v92 : BitVec 32 := Scalar.addi v86 v85
  let v93 : BitVec 32 := Scalar.select v91 v92 v86
  let v94 : Index := Scalar.indexCast v93
  let c0 : Index := 0#32
  let c0_54 : Index := 0#32
  ![v94.toNat, 0, 0]
def k0_off32 (i : grid0.Coords) (c0_i32_24 : BitVec 32) : Fin 2 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c8_i32_25 : BitVec 32 := 8#32
  let c0_i32_26 : BitVec 32 := 0#32
  let v45 : BitVec 1 := Scalar.cmpi .eq c8_i32_25 c0_i32_26
  let c1_i32_27 : BitVec 32 := 1#32
  let v46 : BitVec 32 := Scalar.select v45 c1_i32_27 c8_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let v99 : Index := Scalar.indexCast v54
  let c0_55 : Index := 0#32
  ![v99.toNat, 0]
def k0_off33 (i : grid0.Coords) (c0_i32_24 : BitVec 32) : Fin 3 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c16_i32_63 : BitVec 32 := 16#32
  let c0_i32_64 : BitVec 32 := 0#32
  let v118 : BitVec 1 := Scalar.cmpi .eq c16_i32_63 c0_i32_64
  let c1_i32_65 : BitVec 32 := 1#32
  let v119 : BitVec 32 := Scalar.select v118 c1_i32_65 c16_i32_63
  let v120 : BitVec 32 := Scalar.remsi v44 v119
  let c0_i32_67 : BitVec 32 := 0#32
  let v122 : BitVec 1 := Scalar.cmpi .slt v120 c0_i32_67
  let c0_i32_68 : BitVec 32 := 0#32
  let v123 : BitVec 1 := Scalar.cmpi .slt v119 c0_i32_68
  let v124 : BitVec 1 := Scalar.xori v122 v123
  let c0_i32_66 : BitVec 32 := 0#32
  let v121 : BitVec 1 := Scalar.cmpi .ne v120 c0_i32_66
  let v125 : BitVec 1 := Scalar.andi v124 v121
  let v126 : BitVec 32 := Scalar.addi v120 v119
  let v127 : BitVec 32 := Scalar.select v125 v126 v120
  let v128 : Index := Scalar.indexCast v127
  let c0_69 : Index := 0#32
  let c0_70 : Index := 0#32
  ![v128.toNat, 0, 0]
def k0_off34 (i : grid0.Coords) (c0_i32_24 : BitVec 32) : Fin 1 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c16_i32_77 : BitVec 32 := 16#32
  let c0_i32_78 : BitVec 32 := 0#32
  let v142 : BitVec 1 := Scalar.cmpi .eq c16_i32_77 c0_i32_78
  let c1_i32_79 : BitVec 32 := 1#32
  let v143 : BitVec 32 := Scalar.select v142 c1_i32_79 c16_i32_77
  let v144 : BitVec 32 := Scalar.remsi v44 v143
  let c0_i32_81 : BitVec 32 := 0#32
  let v146 : BitVec 1 := Scalar.cmpi .slt v144 c0_i32_81
  let c0_i32_82 : BitVec 32 := 0#32
  let v147 : BitVec 1 := Scalar.cmpi .slt v143 c0_i32_82
  let v148 : BitVec 1 := Scalar.xori v146 v147
  let c0_i32_80 : BitVec 32 := 0#32
  let v145 : BitVec 1 := Scalar.cmpi .ne v144 c0_i32_80
  let v149 : BitVec 1 := Scalar.andi v148 v145
  let v150 : BitVec 32 := Scalar.addi v144 v143
  let v151 : BitVec 32 := Scalar.select v149 v150 v144
  ![v151.toNat]
def k0_off35 (i : grid0.Coords) (c0_i32_24 : BitVec 32) : Fin 3 → Nat :=
  let c0_i32_83 : BitVec 32 := 0#32
  let arg0 : BitVec 32 := BitVec.ofNat 32 (i 0).val
  let c8_i32 : BitVec 32 := 8#32
  let v0 : BitVec 32 := Scalar.muli arg0 c8_i32
  let v44 : BitVec 32 := Scalar.addi v0 c0_i32_24
  let c0_i32_84 : BitVec 32 := 0#32
  ![0, v44.toNat, 0]
def k0_off36 (i : grid0.Coords) (c0_i32_24 : BitVec 32) : Fin 3 → Nat :=
  let arg0 : BitVec 32 := BitVec.ofNat 32 (i 0).val
  let c8_i32 : BitVec 32 := 8#32
  let v0 : BitVec 32 := Scalar.muli arg0 c8_i32
  let v44 : BitVec 32 := Scalar.addi v0 c0_i32_24
  let c16_i32_71 : BitVec 32 := 16#32
  let c0_i32_72 : BitVec 32 := 0#32
  let v132 : BitVec 1 := Scalar.cmpi .eq c16_i32_71 c0_i32_72
  let c1_i32_73 : BitVec 32 := 1#32
  let v133 : BitVec 32 := Scalar.select v132 c1_i32_73 c16_i32_71
  let v134 : BitVec 32 := Scalar.remsi v44 v133
  let c0_i32_75 : BitVec 32 := 0#32
  let v136 : BitVec 1 := Scalar.cmpi .slt v134 c0_i32_75
  let c0_i32_76 : BitVec 32 := 0#32
  let v137 : BitVec 1 := Scalar.cmpi .slt v133 c0_i32_76
  let v138 : BitVec 1 := Scalar.xori v136 v137
  let c0_i32_74 : BitVec 32 := 0#32
  let v135 : BitVec 1 := Scalar.cmpi .ne v134 c0_i32_74
  let v139 : BitVec 1 := Scalar.andi v138 v135
  let v140 : BitVec 32 := Scalar.addi v134 v133
  let v141 : BitVec 32 := Scalar.select v139 v140 v134
  let c0_i32_85 : BitVec 32 := 0#32
  let c0_i32_86 : BitVec 32 := 0#32
  ![v141.toNat, 0, 0]
def k0_cond11 (i : grid0.Coords) : BitVec 1 :=
  let arg0 : BitVec 32 := BitVec.ofNat 32 (i 0).val
  let c8_i32 : BitVec 32 := 8#32
  let v0 : BitVec 32 := Scalar.muli arg0 c8_i32
  let c1_i32_87 : BitVec 32 := 1#32
  let v158 : BitVec 32 := Scalar.addi v0 c1_i32_87
  let c16_i32_94 : BitVec 32 := 16#32
  let v169 : BitVec 1 := Scalar.cmpi .sge v158 c16_i32_94
  let v170 : BitVec 32 := Scalar.extui v169
  let c0_i32_95 : BitVec 32 := 0#32
  let v171 : BitVec 1 := Scalar.cmpi .ne v170 c0_i32_95
  v171

def k0_off37 (i : grid0.Coords) : Fin 1 → Nat :=
  let arg0 : BitVec 32 := BitVec.ofNat 32 (i 0).val
  let c8_i32 : BitVec 32 := 8#32
  let v0 : BitVec 32 := Scalar.muli arg0 c8_i32
  let c1_i32_87 : BitVec 32 := 1#32
  let v158 : BitVec 32 := Scalar.addi v0 c1_i32_87
  let c16_i32_551 : BitVec 32 := 16#32
  let v959 : BitVec 32 := Scalar.subi v158 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off38 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c1_i32_87 : BitVec 32 := 1#32
  let v158 : BitVec 32 := Scalar.addi v0 c1_i32_87
  let c16_i32_551 : BitVec 32 := 16#32
  let v959 : BitVec 32 := Scalar.subi v158 c16_i32_551
  let c0_i32_565 : BitVec 32 := 0#32
  ![0, v959.toNat, 0]
def k0_off39 (i : grid0.Coords) : Fin 3 → Nat :=
  let arg0 : BitVec 32 := BitVec.ofNat 32 (i 0).val
  let c8_i32 : BitVec 32 := 8#32
  let v0 : BitVec 32 := Scalar.muli arg0 c8_i32
  let c1_i32_87 : BitVec 32 := 1#32
  let v158 : BitVec 32 := Scalar.addi v0 c1_i32_87
  let c16_i32_551 : BitVec 32 := 16#32
  let v959 : BitVec 32 := Scalar.subi v158 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_cond12 (i : grid0.Coords) : BitVec 1 :=
  let arg0 : BitVec 32 := BitVec.ofNat 32 (i 0).val
  let c8_i32 : BitVec 32 := 8#32
  let v0 : BitVec 32 := Scalar.muli arg0 c8_i32
  let c2_i32_153 : BitVec 32 := 2#32
  let v272 : BitVec 32 := Scalar.addi v0 c2_i32_153
  let c16_i32_160 : BitVec 32 := 16#32
  let v283 : BitVec 1 := Scalar.cmpi .sge v272 c16_i32_160
  let v284 : BitVec 32 := Scalar.extui v283
  let c0_i32_161 : BitVec 32 := 0#32
  let v285 : BitVec 1 := Scalar.cmpi .ne v284 c0_i32_161
  v285

def k0_off40 (i : grid0.Coords) : Fin 1 → Nat :=
  let arg0 : BitVec 32 := BitVec.ofNat 32 (i 0).val
  let c8_i32 : BitVec 32 := 8#32
  let v0 : BitVec 32 := Scalar.muli arg0 c8_i32
  let c2_i32_153 : BitVec 32 := 2#32
  let v272 : BitVec 32 := Scalar.addi v0 c2_i32_153
  let c16_i32_551 : BitVec 32 := 16#32
  let v959 : BitVec 32 := Scalar.subi v272 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off41 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c2_i32_153 : BitVec 32 := 2#32
  let v272 : BitVec 32 := Scalar.addi v0 c2_i32_153
  let c16_i32_551 : BitVec 32 := 16#32
  let v959 : BitVec 32 := Scalar.subi v272 c16_i32_551
  let c0_i32_565 : BitVec 32 := 0#32
  ![0, v959.toNat, 0]
def k0_off42 (i : grid0.Coords) : Fin 3 → Nat :=
  let arg0 : BitVec 32 := BitVec.ofNat 32 (i 0).val
  let c8_i32 : BitVec 32 := 8#32
  let v0 : BitVec 32 := Scalar.muli arg0 c8_i32
  let c2_i32_153 : BitVec 32 := 2#32
  let v272 : BitVec 32 := Scalar.addi v0 c2_i32_153
  let c16_i32_551 : BitVec 32 := 16#32
  let v959 : BitVec 32 := Scalar.subi v272 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_cond13 (i : grid0.Coords) : BitVec 1 :=
  let arg0 : BitVec 32 := BitVec.ofNat 32 (i 0).val
  let c8_i32 : BitVec 32 := 8#32
  let v0 : BitVec 32 := Scalar.muli arg0 c8_i32
  let c3_i32_219 : BitVec 32 := 3#32
  let v386 : BitVec 32 := Scalar.addi v0 c3_i32_219
  let c16_i32_226 : BitVec 32 := 16#32
  let v397 : BitVec 1 := Scalar.cmpi .sge v386 c16_i32_226
  let v398 : BitVec 32 := Scalar.extui v397
  let c0_i32_227 : BitVec 32 := 0#32
  let v399 : BitVec 1 := Scalar.cmpi .ne v398 c0_i32_227
  v399

def k0_off43 (i : grid0.Coords) : Fin 1 → Nat :=
  let arg0 : BitVec 32 := BitVec.ofNat 32 (i 0).val
  let c8_i32 : BitVec 32 := 8#32
  let v0 : BitVec 32 := Scalar.muli arg0 c8_i32
  let c3_i32_219 : BitVec 32 := 3#32
  let v386 : BitVec 32 := Scalar.addi v0 c3_i32_219
  let c16_i32_551 : BitVec 32 := 16#32
  let v959 : BitVec 32 := Scalar.subi v386 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off44 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c3_i32_219 : BitVec 32 := 3#32
  let v386 : BitVec 32 := Scalar.addi v0 c3_i32_219
  let c16_i32_551 : BitVec 32 := 16#32
  let v959 : BitVec 32 := Scalar.subi v386 c16_i32_551
  let c0_i32_565 : BitVec 32 := 0#32
  ![0, v959.toNat, 0]
def k0_off45 (i : grid0.Coords) : Fin 3 → Nat :=
  let arg0 : BitVec 32 := BitVec.ofNat 32 (i 0).val
  let c8_i32 : BitVec 32 := 8#32
  let v0 : BitVec 32 := Scalar.muli arg0 c8_i32
  let c3_i32_219 : BitVec 32 := 3#32
  let v386 : BitVec 32 := Scalar.addi v0 c3_i32_219
  let c16_i32_551 : BitVec 32 := 16#32
  let v959 : BitVec 32 := Scalar.subi v386 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_cond14 (i : grid0.Coords) : BitVec 1 :=
  let arg0 : BitVec 32 := BitVec.ofNat 32 (i 0).val
  let c8_i32 : BitVec 32 := 8#32
  let v0 : BitVec 32 := Scalar.muli arg0 c8_i32
  let c4_i32_285 : BitVec 32 := 4#32
  let v500 : BitVec 32 := Scalar.addi v0 c4_i32_285
  let c16_i32_292 : BitVec 32 := 16#32
  let v511 : BitVec 1 := Scalar.cmpi .sge v500 c16_i32_292
  let v512 : BitVec 32 := Scalar.extui v511
  let c0_i32_293 : BitVec 32 := 0#32
  let v513 : BitVec 1 := Scalar.cmpi .ne v512 c0_i32_293
  v513

def k0_off46 (i : grid0.Coords) : Fin 1 → Nat :=
  let arg0 : BitVec 32 := BitVec.ofNat 32 (i 0).val
  let c8_i32 : BitVec 32 := 8#32
  let v0 : BitVec 32 := Scalar.muli arg0 c8_i32
  let c4_i32_285 : BitVec 32 := 4#32
  let v500 : BitVec 32 := Scalar.addi v0 c4_i32_285
  let c16_i32_551 : BitVec 32 := 16#32
  let v959 : BitVec 32 := Scalar.subi v500 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off47 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c4_i32_285 : BitVec 32 := 4#32
  let v500 : BitVec 32 := Scalar.addi v0 c4_i32_285
  let c16_i32_551 : BitVec 32 := 16#32
  let v959 : BitVec 32 := Scalar.subi v500 c16_i32_551
  let c0_i32_565 : BitVec 32 := 0#32
  ![0, v959.toNat, 0]
def k0_off48 (i : grid0.Coords) : Fin 3 → Nat :=
  let arg0 : BitVec 32 := BitVec.ofNat 32 (i 0).val
  let c8_i32 : BitVec 32 := 8#32
  let v0 : BitVec 32 := Scalar.muli arg0 c8_i32
  let c4_i32_285 : BitVec 32 := 4#32
  let v500 : BitVec 32 := Scalar.addi v0 c4_i32_285
  let c16_i32_551 : BitVec 32 := 16#32
  let v959 : BitVec 32 := Scalar.subi v500 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_cond15 (i : grid0.Coords) : BitVec 1 :=
  let arg0 : BitVec 32 := BitVec.ofNat 32 (i 0).val
  let c8_i32 : BitVec 32 := 8#32
  let v0 : BitVec 32 := Scalar.muli arg0 c8_i32
  let c5_i32_351 : BitVec 32 := 5#32
  let v614 : BitVec 32 := Scalar.addi v0 c5_i32_351
  let c16_i32_358 : BitVec 32 := 16#32
  let v625 : BitVec 1 := Scalar.cmpi .sge v614 c16_i32_358
  let v626 : BitVec 32 := Scalar.extui v625
  let c0_i32_359 : BitVec 32 := 0#32
  let v627 : BitVec 1 := Scalar.cmpi .ne v626 c0_i32_359
  v627

def k0_off49 (i : grid0.Coords) : Fin 1 → Nat :=
  let arg0 : BitVec 32 := BitVec.ofNat 32 (i 0).val
  let c8_i32 : BitVec 32 := 8#32
  let v0 : BitVec 32 := Scalar.muli arg0 c8_i32
  let c5_i32_351 : BitVec 32 := 5#32
  let v614 : BitVec 32 := Scalar.addi v0 c5_i32_351
  let c16_i32_551 : BitVec 32 := 16#32
  let v959 : BitVec 32 := Scalar.subi v614 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off50 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c5_i32_351 : BitVec 32 := 5#32
  let v614 : BitVec 32 := Scalar.addi v0 c5_i32_351
  let c16_i32_551 : BitVec 32 := 16#32
  let v959 : BitVec 32 := Scalar.subi v614 c16_i32_551
  let c0_i32_565 : BitVec 32 := 0#32
  ![0, v959.toNat, 0]
def k0_off51 (i : grid0.Coords) : Fin 3 → Nat :=
  let arg0 : BitVec 32 := BitVec.ofNat 32 (i 0).val
  let c8_i32 : BitVec 32 := 8#32
  let v0 : BitVec 32 := Scalar.muli arg0 c8_i32
  let c5_i32_351 : BitVec 32 := 5#32
  let v614 : BitVec 32 := Scalar.addi v0 c5_i32_351
  let c16_i32_551 : BitVec 32 := 16#32
  let v959 : BitVec 32 := Scalar.subi v614 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_cond16 (i : grid0.Coords) : BitVec 1 :=
  let arg0 : BitVec 32 := BitVec.ofNat 32 (i 0).val
  let c8_i32 : BitVec 32 := 8#32
  let v0 : BitVec 32 := Scalar.muli arg0 c8_i32
  let c6_i32_417 : BitVec 32 := 6#32
  let v728 : BitVec 32 := Scalar.addi v0 c6_i32_417
  let c16_i32_424 : BitVec 32 := 16#32
  let v739 : BitVec 1 := Scalar.cmpi .sge v728 c16_i32_424
  let v740 : BitVec 32 := Scalar.extui v739
  let c0_i32_425 : BitVec 32 := 0#32
  let v741 : BitVec 1 := Scalar.cmpi .ne v740 c0_i32_425
  v741

def k0_off52 (i : grid0.Coords) : Fin 1 → Nat :=
  let arg0 : BitVec 32 := BitVec.ofNat 32 (i 0).val
  let c8_i32 : BitVec 32 := 8#32
  let v0 : BitVec 32 := Scalar.muli arg0 c8_i32
  let c6_i32_417 : BitVec 32 := 6#32
  let v728 : BitVec 32 := Scalar.addi v0 c6_i32_417
  let c16_i32_551 : BitVec 32 := 16#32
  let v959 : BitVec 32 := Scalar.subi v728 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off53 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c6_i32_417 : BitVec 32 := 6#32
  let v728 : BitVec 32 := Scalar.addi v0 c6_i32_417
  let c16_i32_551 : BitVec 32 := 16#32
  let v959 : BitVec 32 := Scalar.subi v728 c16_i32_551
  let c0_i32_565 : BitVec 32 := 0#32
  ![0, v959.toNat, 0]
def k0_off54 (i : grid0.Coords) : Fin 3 → Nat :=
  let arg0 : BitVec 32 := BitVec.ofNat 32 (i 0).val
  let c8_i32 : BitVec 32 := 8#32
  let v0 : BitVec 32 := Scalar.muli arg0 c8_i32
  let c6_i32_417 : BitVec 32 := 6#32
  let v728 : BitVec 32 := Scalar.addi v0 c6_i32_417
  let c16_i32_551 : BitVec 32 := 16#32
  let v959 : BitVec 32 := Scalar.subi v728 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def k0_cond17 (i : grid0.Coords) : BitVec 1 :=
  let arg0 : BitVec 32 := BitVec.ofNat 32 (i 0).val
  let c8_i32 : BitVec 32 := 8#32
  let v0 : BitVec 32 := Scalar.muli arg0 c8_i32
  let c7_i32_483 : BitVec 32 := 7#32
  let v842 : BitVec 32 := Scalar.addi v0 c7_i32_483
  let c16_i32_490 : BitVec 32 := 16#32
  let v853 : BitVec 1 := Scalar.cmpi .sge v842 c16_i32_490
  let v854 : BitVec 32 := Scalar.extui v853
  let c0_i32_491 : BitVec 32 := 0#32
  let v855 : BitVec 1 := Scalar.cmpi .ne v854 c0_i32_491
  v855

def k0_off55 (i : grid0.Coords) : Fin 1 → Nat :=
  let arg0 : BitVec 32 := BitVec.ofNat 32 (i 0).val
  let c8_i32 : BitVec 32 := 8#32
  let v0 : BitVec 32 := Scalar.muli arg0 c8_i32
  let c7_i32_483 : BitVec 32 := 7#32
  let v842 : BitVec 32 := Scalar.addi v0 c7_i32_483
  let c16_i32_551 : BitVec 32 := 16#32
  let v959 : BitVec 32 := Scalar.subi v842 c16_i32_551
  let c16_i32_558 : BitVec 32 := 16#32
  let c0_i32_559 : BitVec 32 := 0#32
  let v970 : BitVec 1 := Scalar.cmpi .eq c16_i32_558 c0_i32_559
  let c1_i32_560 : BitVec 32 := 1#32
  let v971 : BitVec 32 := Scalar.select v970 c1_i32_560 c16_i32_558
  let v972 : BitVec 32 := Scalar.remsi v959 v971
  let c0_i32_562 : BitVec 32 := 0#32
  let v974 : BitVec 1 := Scalar.cmpi .slt v972 c0_i32_562
  let c0_i32_563 : BitVec 32 := 0#32
  let v975 : BitVec 1 := Scalar.cmpi .slt v971 c0_i32_563
  let v976 : BitVec 1 := Scalar.xori v974 v975
  let c0_i32_561 : BitVec 32 := 0#32
  let v973 : BitVec 1 := Scalar.cmpi .ne v972 c0_i32_561
  let v977 : BitVec 1 := Scalar.andi v976 v973
  let v978 : BitVec 32 := Scalar.addi v972 v971
  let v979 : BitVec 32 := Scalar.select v977 v978 v972
  ![v979.toNat]
def k0_off56 (i : grid0.Coords) : Fin 3 → Nat :=
  let c0_i32_564 : BitVec 32 := 0#32
  let arg0 : BitVec 32 := BitVec.ofNat 32 (i 0).val
  let c8_i32 : BitVec 32 := 8#32
  let v0 : BitVec 32 := Scalar.muli arg0 c8_i32
  let c7_i32_483 : BitVec 32 := 7#32
  let v842 : BitVec 32 := Scalar.addi v0 c7_i32_483
  let c16_i32_551 : BitVec 32 := 16#32
  let v959 : BitVec 32 := Scalar.subi v842 c16_i32_551
  let c0_i32_565 : BitVec 32 := 0#32
  ![0, v959.toNat, 0]
def k0_off57 (i : grid0.Coords) : Fin 3 → Nat :=
  let arg0 : BitVec 32 := BitVec.ofNat 32 (i 0).val
  let c8_i32 : BitVec 32 := 8#32
  let v0 : BitVec 32 := Scalar.muli arg0 c8_i32
  let c7_i32_483 : BitVec 32 := 7#32
  let v842 : BitVec 32 := Scalar.addi v0 c7_i32_483
  let c16_i32_551 : BitVec 32 := 16#32
  let v959 : BitVec 32 := Scalar.subi v842 c16_i32_551
  let c16_i32_552 : BitVec 32 := 16#32
  let c0_i32_553 : BitVec 32 := 0#32
  let v960 : BitVec 1 := Scalar.cmpi .eq c16_i32_552 c0_i32_553
  let c1_i32_554 : BitVec 32 := 1#32
  let v961 : BitVec 32 := Scalar.select v960 c1_i32_554 c16_i32_552
  let v962 : BitVec 32 := Scalar.remsi v959 v961
  let c0_i32_556 : BitVec 32 := 0#32
  let v964 : BitVec 1 := Scalar.cmpi .slt v962 c0_i32_556
  let c0_i32_557 : BitVec 32 := 0#32
  let v965 : BitVec 1 := Scalar.cmpi .slt v961 c0_i32_557
  let v966 : BitVec 1 := Scalar.xori v964 v965
  let c0_i32_555 : BitVec 32 := 0#32
  let v963 : BitVec 1 := Scalar.cmpi .ne v962 c0_i32_555
  let v967 : BitVec 1 := Scalar.andi v966 v963
  let v968 : BitVec 32 := Scalar.addi v962 v961
  let v969 : BitVec 32 := Scalar.select v967 v968 v962
  let c0_i32_566 : BitVec 32 := 0#32
  let c0_i32_567 : BitVec 32 := 0#32
  ![v969.toNat, 0, 0]
def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.divsi v0 c8_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi v0 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x59x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x200 : Shape := ⟨2, ![4096, 200]⟩
abbrev S4096x200x45 : Shape := ⟨3, ![4096, 200, 45]⟩
abbrev S13x128 : Shape := ⟨2, ![13, 128]⟩
abbrev S45x128 : Shape := ⟨2, ![45, 128]⟩
abbrev S128 : Shape := ⟨1, ![128]⟩
abbrev S200x128 : Shape := ⟨2, ![200, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S1x1x128 : Shape := ⟨3, ![1, 1, 128]⟩
abbrev S200 : Shape := ⟨1, ![200]⟩
abbrev S200x1 : Shape := ⟨2, ![200, 1]⟩
abbrev S1x1 : Shape := ⟨2, ![1, 1]⟩
abbrev S1x200x128 : Shape := ⟨3, ![1, 200, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200x45, .f32⟩
  | .hbm, ⟨2, _⟩ => ⟨S13x128, .f32⟩
  | .hbm, ⟨3, _⟩ => ⟨S45x128, .f32⟩
  | .hbm, ⟨4, _⟩ => ⟨S128, .f32⟩
  | .hbm, ⟨5, _⟩ => ⟨S200x128, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4096x200, .i32⟩
  | .hbm, ⟨17, _⟩ => ⟨S4096x200, .i32⟩
  | .hbm, ⟨18, _⟩ => ⟨S_, .i32⟩
  | .hbm, ⟨19, _⟩ => ⟨S4096x200, .i32⟩
  | .hbm, ⟨20, _⟩ => ⟨S4096x200, .i32⟩
  | .hbm, ⟨21, _⟩ => ⟨S_, .i32⟩
  | .hbm, ⟨22, _⟩ => ⟨S4096x200, .i32⟩
  | .hbm, ⟨23, _⟩ => ⟨S4096x200, .i1⟩
  | .hbm, ⟨24, _⟩ => ⟨S_, .i32⟩
  | .hbm, ⟨25, _⟩ => ⟨S4096x200, .i32⟩
  | .hbm, ⟨26, _⟩ => ⟨S4096x200, .i32⟩
  | .hbm, ⟨27, _⟩ => ⟨S4096x200, .i32⟩
  | .hbm, ⟨28, _⟩ => ⟨S4096x200x1, .i32⟩
  | .hbm, ⟨29, _⟩ => ⟨S1, .i32⟩
  | .hbm, ⟨30, _⟩ => ⟨S_, .i32⟩
  | .hbm, ⟨31, _⟩ => ⟨S4096x200x1, .i32⟩
  | .hbm, ⟨32, _⟩ => ⟨S4096x200x1, .i1⟩
  | .hbm, ⟨33, _⟩ => ⟨S1x1x1, .i32⟩
  | .hbm, ⟨34, _⟩ => ⟨S4096x200x1, .i32⟩
  | .hbm, ⟨35, _⟩ => ⟨S4096x200x1, .i1⟩
  | .hbm, ⟨36, _⟩ => ⟨S4096x200x1, .i1⟩
  | .hbm, ⟨37, _⟩ => ⟨S_, .i1⟩
  | .hbm, ⟨38, _⟩ => ⟨S4096x200, .i1⟩
  | .hbm, ⟨39, _⟩ => ⟨S4096x200x128, .f32⟩
  | .hbm, ⟨40, _⟩ => ⟨S4096x200x128, .i1⟩
  | .hbm, ⟨41, _⟩ => ⟨S_, .f32⟩
  | .hbm, ⟨42, _⟩ => ⟨S4096x200x128, .f32⟩
  | .hbm, ⟨43, _⟩ => ⟨S4096x200x128, .f32⟩
  | .hbm, ⟨44, _⟩ => ⟨S_, .f32⟩
  | .hbm, ⟨45, _⟩ => ⟨S4096x200x45, .f32⟩
  | .hbm, ⟨46, _⟩ => ⟨S4096x200x45, .i1⟩
  | .hbm, ⟨47, _⟩ => ⟨S_, .f32⟩
  | .hbm, ⟨48, _⟩ => ⟨S_, .f32⟩
  | .hbm, ⟨49, _⟩ => ⟨S4096x200x45, .f32⟩
  | .hbm, ⟨50, _⟩ => ⟨S4096x200x45, .f32⟩
  | .hbm, ⟨51, _⟩ => ⟨S4096x200x128, .f32⟩
  | .hbm, ⟨52, _⟩ => ⟨S1x1x128, .f32⟩
  | .hbm, ⟨53, _⟩ => ⟨S4096x200x128, .f32⟩
  | .hbm, ⟨54, _⟩ => ⟨S4096x200x128, .f32⟩
  | .hbm, ⟨55, _⟩ => ⟨S4096x200x128, .f32⟩
  | .hbm, ⟨56, _⟩ => ⟨S200, .i32⟩
  | .hbm, ⟨57, _⟩ => ⟨S_, .i32⟩
  | .hbm, ⟨58, _⟩ => ⟨S200, .i32⟩
  | .hbm, ⟨59, _⟩ => ⟨S200, .i1⟩
  | .hbm, ⟨60, _⟩ => ⟨S_, .i32⟩
  | .hbm, ⟨61, _⟩ => ⟨S200, .i32⟩
  | .hbm, ⟨62, _⟩ => ⟨S200, .i32⟩
  | .hbm, ⟨63, _⟩ => ⟨S200, .i32⟩
  | .hbm, ⟨64, _⟩ => ⟨S200x1, .i32⟩
  | .hbm, ⟨65, _⟩ => ⟨S1, .i32⟩
  | .hbm, ⟨66, _⟩ => ⟨S_, .i32⟩
  | .hbm, ⟨67, _⟩ => ⟨S200x1, .i32⟩
  | .hbm, ⟨68, _⟩ => ⟨S200x1, .i1⟩
  | .hbm, ⟨69, _⟩ => ⟨S1x1, .i32⟩
  | .hbm, ⟨70, _⟩ => ⟨S200x1, .i32⟩
  | .hbm, ⟨71, _⟩ => ⟨S200x1, .i1⟩
  | .hbm, ⟨72, _⟩ => ⟨S200x1, .i1⟩
  | .hbm, ⟨73, _⟩ => ⟨S_, .i1⟩
  | .hbm, ⟨74, _⟩ => ⟨S200, .i1⟩
  | .hbm, ⟨75, _⟩ => ⟨S200x128, .f32⟩
  | .hbm, ⟨76, _⟩ => ⟨S200x128, .i1⟩
  | .hbm, ⟨77, _⟩ => ⟨S_, .f32⟩
  | .hbm, ⟨78, _⟩ => ⟨S200x128, .f32⟩
  | .hbm, ⟨79, _⟩ => ⟨S200x128, .f32⟩
  | .hbm, ⟨80, _⟩ => ⟨S1x200x128, .f32⟩
  | .hbm, ⟨81, _⟩ => ⟨S4096x200x128, .f32⟩
  | .hbm, ⟨82, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v3 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_c_1 : Ref sig .tc := ⟨.hbm, 29, rfl⟩
abbrev main_call2_c_2 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_3 : Ref sig .tc := ⟨.hbm, 37, rfl⟩
abbrev main_call2_v12 : Ref sig .tc := ⟨.hbm, 38, rfl⟩
abbrev main_call2_v13 : Ref sig .tc := ⟨.hbm, 39, rfl⟩
abbrev main_call2_v14 : Ref sig .tc := ⟨.hbm, 40, rfl⟩
abbrev main_call2_cst : Ref sig .tc := ⟨.hbm, 41, rfl⟩
abbrev main_call2_v15 : Ref sig .tc := ⟨.hbm, 42, rfl⟩
abbrev main_v4 : Ref sig .tc := ⟨.hbm, 43, rfl⟩
abbrev main_cst : Ref sig .tc := ⟨.hbm, 44, rfl⟩
abbrev main_v5 : Ref sig .tc := ⟨.hbm, 45, rfl⟩
abbrev main_v6 : Ref sig .tc := ⟨.hbm, 46, rfl⟩
abbrev main_cst_3 : Ref sig .tc := ⟨.hbm, 47, rfl⟩
abbrev main_call3_v0 : Ref sig .tc := ⟨.hbm, 48, rfl⟩
abbrev main_call3_v1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_call4_c : Ref sig .tc := ⟨.hbm, 57, rfl⟩
abbrev main_call4_v0 : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_c_1 : Ref sig .tc := ⟨.hbm, 65, rfl⟩
abbrev main_call4_c_2 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_3 : Ref sig .tc := ⟨.hbm, 73, rfl⟩
abbrev main_call4_v12 : Ref sig .tc := ⟨.hbm, 74, rfl⟩
abbrev main_call4_v13 : Ref sig .tc := ⟨.hbm, 75, rfl⟩
abbrev main_call4_v14 : Ref sig .tc := ⟨.hbm, 76, rfl⟩
abbrev main_call4_cst : Ref sig .tc := ⟨.hbm, 77, rfl⟩
abbrev main_call4_v15 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩

abbrev nD : Nat := 1
abbrev τ : Topo := Topo.v7x

variable {F : FTy → Type} [FloatOps F]
-- ==== Proof.Slots.lean ====
/-
  The two rings of the kernel and the rows of its result, as resources.

  Twenty-four input slots and sixteen output slots are each in one of three phases: free, holding one row's block, or
  with the copy of one row's block under way. The two hundred rows of the result are each not yet written, lent to a
  copy, or written with their final contents. One lemma per memory operation moves one slot (and one row) from one
  phase to the next.
-/
module

public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The transfers' counters in the proof's algebra. -/
abbrev EC : UEmb Counters 𝕄 := countersEmb

/-! ## The ends of the copies -/

/-- One slot of the input ring. -/
abbrev inV (o : Fin 3 → ℕ) (h : ∀ a, o a + S1x45x4096.size a ≤ S24x45x4096.size a) : Memref sig .tc .vmem S45x4096 .f32 :=
  ((Memref.whole cc0_scratch0 : Memref sig .tc .vmem S24x45x4096 .f32).slice (Rect.unit (s := S24x45x4096) o S1x45x4096.size h) (fun _ => rfl)).squeeze
    S45x4096 squeezes_S1x45x4096_S45x4096
/-- One row's block of the parameter array. -/
abbrev pxV (o : Fin 3 → ℕ) (h : ∀ a, o a + S45x1x4096.size a ≤ S45x200x4096.size a) : Memref sig .tc .hbm S45x4096 .f32 :=
  ((Memref.whole main_v0 : Memref sig .tc .hbm S45x200x4096 .f32).slice (Rect.unit (s := S45x200x4096) o S45x1x4096.size h) (fun _ => rfl)).squeeze
    S45x4096 squeezes_S45x1x4096_S45x4096
/-- One slot of the output ring. -/
abbrev scV (o : Fin 3 → ℕ) (h : ∀ a, o a + S1x4096x128.size a ≤ S16x4096x128.size a) : Memref sig .tc .vmem S4096x128 .f32 :=
  ((Memref.whole cc0_scratch1 : Memref sig .tc .vmem S16x4096x128 .f32).slice (Rect.unit (s := S16x4096x128) o S1x4096x128.size h) (fun _ => rfl)).squeeze
    S4096x128 squeezes_S1x4096x128_S4096x128
/-- One row of the result. -/
abbrev ouV (o : Fin 3 → ℕ) (h : ∀ a, o a + S4096x1x128.size a ≤ S4096x200x128.size a) : Memref sig .tc .hbm S4096x128 .f32 :=
  ((Memref.whole main_v11 : Memref sig .tc .hbm S4096x200x128 .f32).slice (Rect.unit (s := S4096x200x128) o S4096x1x128.size h) (fun _ => rfl)).squeeze
    S4096x128 squeezes_S4096x1x128_S4096x128
/-- The semaphore of an input slot, and of an output slot. -/
abbrev inS (o : Fin 1 → ℕ) (h : ∀ a, o a + S1.size a ≤ S24.size a) : DmaSem sig :=
  ((cc0_scratch2.slice (Rect.unit (s := S24) o S1.size h)).squeeze S_ squeezes_S1_S_).sem
abbrev ouS (o : Fin 1 → ℕ) (h : ∀ a, o a + S1.size a ≤ S16.size a) : DmaSem sig :=
  ((cc0_scratch3.slice (Rect.unit (s := S16) o S1.size h)).squeeze S_ squeezes_S1_S_).sem

theorem inb_in (k : Fin 24) : ∀ a, (![k.val, 0, 0] : Fin 3 → ℕ) a + S1x45x4096.size a ≤ S24x45x4096.size a := by
  intro a; have := k.isLt; fin_cases a <;> simp <;> omega
theorem inb_px (l : Fin 200) : ∀ a, (![0, l.val, 0] : Fin 3 → ℕ) a + S45x1x4096.size a ≤ S45x200x4096.size a := by
  intro a; have := l.isLt; fin_cases a <;> simp <;> omega
theorem inb_sc (k : Fin 16) : ∀ a, (![k.val, 0, 0] : Fin 3 → ℕ) a + S1x4096x128.size a ≤ S16x4096x128.size a := by
  intro a; have := k.isLt; fin_cases a <;> simp <;> omega
theorem inb_ou (l : Fin 200) : ∀ a, (![0, l.val, 0] : Fin 3 → ℕ) a + S4096x1x128.size a ≤ S4096x200x128.size a := by
  intro a; have := l.isLt; fin_cases a <;> simp <;> omega
theorem inb_s24 (k : Fin 24) : ∀ a, (![k.val] : Fin 1 → ℕ) a + S1.size a ≤ S24.size a := by
  intro a; have := k.isLt; fin_cases a; simp; omega
theorem inb_s16 (k : Fin 16) : ∀ a, (![k.val] : Fin 1 → ℕ) a + S1.size a ≤ S16.size a := by
  intro a; have := k.isLt; fin_cases a; simp; omega

abbrev inAt (k : Fin 24) := inV ![k.val, 0, 0] (inb_in k)
abbrev pxAt (l : Fin 200) := pxV ![0, l.val, 0] (inb_px l)
abbrev scAt (k : Fin 16) := scV ![k.val, 0, 0] (inb_sc k)
abbrev ouAt (l : Fin 200) := ouV ![0, l.val, 0] (inb_ou l)
abbrev inSem (k : Fin 24) : DmaSem sig := inS ![k.val] (inb_s24 k)
abbrev ouSem (k : Fin 16) : DmaSem sig := ouS ![k.val] (inb_s16 k)

/-! ## Phases -/

/-- The phase of a slot. -/
inductive Ph where
  | free
  | held (l : Fin 200)
  | fly (l : Fin 200)
deriving DecidableEq

/-- The phase of a row of the result. -/
inductive Rw where
  | todo
  | gone
  | done
deriving DecidableEq

variable (c : Dev nD)
variable (PX : Buf (Elt F) ((c : Thread nD τ).loc main_v0)) (G : Buf (Elt F) ((c : Thread nD τ).loc main_v11))

/-- The share of the parameter array one input slot's copies read through. -/
abbrev tk (k : Fin 24) : PosShare TreeShare := Transfers.shareTok fullShare 24 k

/-- The parameter array at one slot's share: all of it, one row's block, all but one row's block. -/
abbrev pxAll (k : Fin 24) : sProp 𝕄 := ((c : Thread nD τ).loc main_v0) ↦{tk k} PX
abbrev pxRow (k : Fin 24) (l : Fin 200) : sProp 𝕄 := (pxAt l).view.loc (c : Thread nD τ) ↦[(pxAt l).view.set]{tk k} PX
abbrev pxBut (k : Fin 24) (l : Fin 200) : sProp 𝕄 := (pxAt l).view.loc (c : Thread nD τ) ↦[Finset.univ \ (pxAt l).view.set]{tk k} PX

/-- The block of row `l`, as its copy reads it. -/
abbrev pxRd (l : Fin 200) : S45x4096.Idx → Elt F .f32 := (pxAt l).view.read (Elt F) PX
/-- What the result's row `l` finally holds. -/
abbrev gRd (l : Fin 200) : S4096x128.Idx → Elt F .f32 := (ouAt l).view.read (Elt F) G

/-- An input slot in its phase. -/
def InP (k : Fin 24) : Ph → sProp 𝕄
  | .free => iprop(semVal ((c : Thread nD τ), SemLoc.dma (inSem k)) 0 ∗ (∃ X, owns (c : Thread nD τ) (inAt k) fullShare X) ∗ pxAll c PX k)
  | .held l => iprop(semVal ((c : Thread nD τ), SemLoc.dma (inSem k)) 0 ∗ owns (c : Thread nD τ) (inAt k) fullShare (pxRd c PX l) ∗ pxAll c PX k)
  | .fly l => iprop(Transfers.Flight EC (c : Thread nD τ) (SemLoc.dma (inSem k)) () (inAt k).view.dmaCredit
      iprop(owns (c : Thread nD τ) (inAt k) fullShare (pxRd c PX l) ∗ pxRow c PX k l) ∗ pxBut c PX k l)

/-- The elements of row `l` of the result at contents `f`. -/
abbrev ouRow (l : Fin 200) (f : Buf (Elt F) ((c : Thread nD τ).loc main_v11)) : sProp 𝕄 :=
  (ouAt l).view.loc (c : Thread nD τ) ↦[(ouAt l).view.set]{fullShare} f

/-- An output slot in its phase. -/
def OuP (k : Fin 16) : Ph → sProp 𝕄
  | .free => iprop(semVal ((c : Thread nD τ), SemLoc.dma (ouSem k)) 0 ∗ (∃ X, owns (c : Thread nD τ) (scAt k) fullShare X))
  | .held l => iprop(semVal ((c : Thread nD τ), SemLoc.dma (ouSem k)) 0 ∗ owns (c : Thread nD τ) (scAt k) fullShare (gRd c G l))
  | .fly l => Transfers.Flight EC (c : Thread nD τ) (SemLoc.dma (ouSem k)) () (ouAt l).view.dmaCredit
      iprop(ouRow c l G ∗ (∃ X, owns (c : Thread nD τ) (scAt k) fullShare X))

/-- A row of the result in its phase. -/
def RwP (l : Fin 200) : Rw → sProp 𝕄
  | .todo => iprop(∃ f, ouRow c l f)
  | .gone => BI.emp
  | .done => ouRow c l G

theorem InP_free (k) : InP c PX k .free = iprop(semVal ((c : Thread nD τ), SemLoc.dma (inSem k)) 0 ∗ (∃ X, owns (c : Thread nD τ) (inAt k) fullShare X) ∗ pxAll c PX k) := rfl
theorem InP_held (k l) : InP c PX k (.held l) = iprop(semVal ((c : Thread nD τ), SemLoc.dma (inSem k)) 0 ∗ owns (c : Thread nD τ) (inAt k) fullShare (pxRd c PX l) ∗ pxAll c PX k) := rfl
theorem InP_fly (k l) : InP c PX k (.fly l) = iprop(Transfers.Flight EC (c : Thread nD τ) (SemLoc.dma (inSem k)) () (inAt k).view.dmaCredit
      iprop(owns (c : Thread nD τ) (inAt k) fullShare (pxRd c PX l) ∗ pxRow c PX k l) ∗ pxBut c PX k l) := rfl
theorem OuP_free (k) : OuP c G k .free = iprop(semVal ((c : Thread nD τ), SemLoc.dma (ouSem k)) 0 ∗ (∃ X, owns (c : Thread nD τ) (scAt k) fullShare X)) := rfl
theorem OuP_held (k l) : OuP c G k (.held l) = iprop(semVal ((c : Thread nD τ), SemLoc.dma (ouSem k)) 0 ∗ owns (c : Thread nD τ) (scAt k) fullShare (gRd c G l)) := rfl
theorem OuP_fly (k l) : OuP c G k (.fly l) = Transfers.Flight EC (c : Thread nD τ) (SemLoc.dma (ouSem k)) () (ouAt l).view.dmaCredit
      iprop(ouRow c l G ∗ (∃ X, owns (c : Thread nD τ) (scAt k) fullShare X)) := rfl
theorem RwP_todo (l) : RwP c G l .todo = iprop(∃ f, ouRow c l f) := rfl
theorem RwP_gone (l) : RwP c G l .gone = BI.emp := rfl
theorem RwP_done (l) : RwP c G l .done = ouRow c l G := rfl

/-- Everything the kernel's body holds: the two rings, the result's rows, what it owes, and `R` besides. -/
def St (R : sProp 𝕄) (a : Fin 24 → Ph) (b : Fin 16 → Ph) (r : Fin 200 → Rw) : sProp 𝕄 :=
  iprop(Ring.AtW (InP c PX) a ∗ Ring.AtW (OuP c G) b ∗ Ring.AtW (RwP c G) r ∗ (∃ W, owes (c : Thread nD τ) 0 W) ∗ R)

variable {c PX G}
variable {a : Fin 24 → Ph} {b : Fin 16 → Ph} {r : Fin 200 → Rw}
variable {defs : Defs nD τ sig (Elt F) Λ₀} {𝒱 : Variants}

/-! ## The operations -/

/-- Start the copy of row `l`'s block into the free slot `k`. -/
theorem start_in {Z : sProp 𝕄} {Q : PUnit → sProp 𝕄} (k : Fin 24) (l : Fin 200) (hk : a k = .free)
    {o1 : Fin 1 → ℕ} {o2 o3 : Fin 3 → ℕ} {h1 h2 h3} (e1 : o1 = ![k.val]) (e2 : o2 = ![k.val, 0, 0]) (e3 : o3 = ![0, l.val, 0])
    {w1 w2 w3} (h : St c PX G Z (Function.update a k (.fly l)) b r ⊢ Q ⟨⟩) :
    St c PX G Z a b r ⊢ wp frame (wpE defs 𝒱 (c : Thread nD τ) none) Set.univ
      (Prog.lift (.enqueueDma (pxV o3 h3) (.here (inV o2 h2)) (.dma (inS o1 h1)) w1 w2 w3)) Q := by
  subst e1 e2 e3
  refine BIBase.Entails.trans ?_ (wp_mono frame (wpE defs 𝒱 (c : Thread nD τ) none) Set.univ (Q := fun _ => St c PX G Z (Function.update a k (.fly l)) b r) fun _ => h)
  unfold St
  rw [Ring.AtW_focus (InP c PX) a k, hk, InP_free]
  unfold owns
  iintro ⟨⟨⟨Hv, ⟨%X, %f, -, Hs⟩, Hp⟩, HR⟩, Hb, Hr, HW, Ht⟩
  ihave Hp' := (pointsTo_split_subset (Finset.subset_univ (pxAt l).view.set)).1 $$ Hp
  icases Hp' with ⟨Hp1, Hp2⟩
  iapply (Transfers.wp_dmaLocal EC 𝒱 (c : Thread nD τ) none () (inAt k).view.dmaCredit
    (View.amount_dma _ _) ((inAt k).view.dmaCredit_pos (by decide)) (Finset.Subset.refl _)) $$ [Hp1 Hs Hv]
  · isplitl [Hp1]; · iexact Hp1
    isplitl [Hs]; · iexact Hs
    iexact Hv
  iintro HF
  rw [wp_ret]
  imodintro
  isplitl [HF HR Hp2]
  · iapply (Ring.AtW_update (InP c PX) a k (.fly l))
    isplitr [HR]
    · rw [InP_fly]
      isplitl [HF]
      · iapply (Transfers.Flight_mono EC (c : Thread nD τ) (sep_mono_left
          ((owns_intro (c : Thread nD τ) (inAt k) fullShare _).trans (Entails.of_eq (by rw [View.read_write_univ]))))) $$ HF
      · iexact Hp2
    · iexact HR
  · isplitl [Hb]; · iexact Hb
    isplitl [Hr]; · iexact Hr
    isplitl [HW] <;> iassumption

/-- Wait for the copy of row `l`'s block into slot `k`. -/
theorem wait_in {Z : sProp 𝕄} {Q : PUnit → sProp 𝕄} (k : Fin 24) (l : Fin 200) (hk : a k = .fly l)
    {o1 : Fin 1 → ℕ} {o2 o3 : Fin 3 → ℕ} {h1 h2 h3} (e1 : o1 = ![k.val]) (e2 : o2 = ![k.val, 0, 0])
    {w1 w2} (h : St c PX G Z (Function.update a k (.held l)) b r ⊢ Q ⟨⟩) :
    St c PX G Z a b r ⊢ wp frame (wpE defs 𝒱 (c : Thread nD τ) none) Set.univ
      (Prog.lift (.waitDma2 (inS o1 h1) (pxV o3 h3) (inV o2 h2) w1 w2)) Q := by
  subst e1 e2
  refine BIBase.Entails.trans ?_ (wp_mono frame (wpE defs 𝒱 (c : Thread nD τ) none) Set.univ (Q := fun _ => St c PX G Z (Function.update a k (.held l)) b r) fun _ => h)
  unfold St
  rw [Ring.AtW_focus (InP c PX) a k, hk, InP_fly]
  iintro ⟨⟨⟨HF, Hp2⟩, HR⟩, Hb, Hr, ⟨%W, HW⟩, Ht⟩
  iapply (Transfers.wp_waitLocal EC 𝒱 (c : Thread nD τ) none () (N := (inAt k).view.dmaCredit) rfl) $$ [HF HW]
  · isplitl [HF] <;> iassumption
  iintro ⟨⟨Hs, Hp1⟩, Hv, HW⟩
  rw [wp_ret]
  imodintro
  isplitl [Hs Hv HR Hp1 Hp2]
  · iapply (Ring.AtW_update (InP c PX) a k (.held l))
    isplitr [HR]
    · rw [InP_held]
      isplitl [Hv]; · iexact Hv
      isplitl [Hs]; · iexact Hs
      iapply (pointsTo_split_subset (Finset.subset_univ (pxAt l).view.set)).2
      isplitl [Hp1] <;> iassumption
    · iexact HR
  · isplitl [Hb]; · iexact Hb
    isplitl [Hr]; · iexact Hr
    isplitl [HW]; · iexists _; iexact HW
    iexact Ht

/-- The block of row `l`, indexed as the load of a slot gives it. -/
def pxBlk (c : Dev nD) (PX : Buf (Elt F) ((c : Thread nD τ).loc main_v0)) (l : Fin 200) : Vec F S1x45x4096 .f32 :=
  fun x => pxRd c PX l ((Shape.reshapeEquiv squeezes_S1x45x4096_S45x4096.numel_eq).symm x)

/-- Load a slot holding row `l`'s block. -/
theorem load_in {Z : sProp 𝕄} {Q : Vec F S1x45x4096 .f32 → sProp 𝕄} (k : Fin 24) (l : Fin 200) (hk : a k = .held l)
    {o : Fin 3 → ℕ} {h1} (e : o = ![k.val, 0, 0]) {hl}
    (h : St c PX G Z a b r ⊢ Q (pxBlk c PX l)) :
    St c PX G Z a b r ⊢ wp frame (wpE defs 𝒱 (c : Thread nD τ) none) Set.univ
      (Prog.lift (.load (Memref.whole cc0_scratch0 : Memref sig .tc .vmem S24x45x4096 .f32)
        (Rect.unit (s := S24x45x4096) o S1x45x4096.size h1).toLoadRect hl)) Q := by
  subst e
  refine BIBase.Entails.trans ?_ (wp_mono frame (wpE defs 𝒱 (c : Thread nD τ) none) Set.univ
    (Q := fun v => iprop(⌜v = pxBlk c PX l⌝ ∗ St c PX G Z a b r)) fun v => ?_)
  · unfold St
    rw [Ring.AtW_focus (InP c PX) a k, hk, InP_held]
    unfold owns
    iintro ⟨⟨⟨Hv, ⟨%f, %hf, Hs⟩, Hp⟩, HR⟩, Hb, Hr, HW, Ht⟩
    iapply (wp_load_rect 𝒱 (c : Thread nD τ) none Set.univ (m := (Memref.whole cc0_scratch0 : Memref sig .tc .vmem S24x45x4096 .f32))
      (r := Rect.unit (s := S24x45x4096) ![k.val, 0, 0] S1x45x4096.size h1) (S := (inAt k).view.set)
      (View.set_reshape _ _).symm.subset) $$ Hs
    iintro Hs
    rw [wp_ret]
    imodintro
    isplitr
    · ipureintro
      funext x
      unfold pxBlk
      rw [← hf]
      exact congrArg _ ((Equiv.apply_symm_apply _ x).symm)
    isplitl [Hv Hs Hp HR]
    · isplitr [HR]
      · isplitl [Hv]; · iexact Hv
        isplitl [Hs]
        · iexists f
          isplitr; · ipureintro; exact hf
          iexact Hs
        · iexact Hp
      · iexact HR
    isplitl [Hb]; · iexact Hb
    isplitl [Hr]; · iexact Hr
    isplitl [HW] <;> iassumption
  · iintro ⟨%hv, H⟩
    subst hv
    iapply h $$ H

/-- Wait for the copy out of slot `k` of row `l`. -/
theorem wait_out {Z : sProp 𝕄} {Q : PUnit → sProp 𝕄} (k : Fin 16) (l : Fin 200) (hk : b k = .fly l) (hr : r l = .gone)
    {o1 : Fin 1 → ℕ} {o2 o3 : Fin 3 → ℕ} {h1 h2 h3} (e1 : o1 = ![k.val]) (e3 : o3 = ![0, l.val, 0])
    {w1 w2} (h : St c PX G Z a (Function.update b k .free) (Function.update r l .done) ⊢ Q ⟨⟩) :
    St c PX G Z a b r ⊢ wp frame (wpE defs 𝒱 (c : Thread nD τ) none) Set.univ
      (Prog.lift (.waitDma2 (ouS o1 h1) (scV o2 h2) (ouV o3 h3) w1 w2)) Q := by
  subst e1 e3
  refine BIBase.Entails.trans ?_ (wp_mono frame (wpE defs 𝒱 (c : Thread nD τ) none) Set.univ
    (Q := fun _ => St c PX G Z a (Function.update b k .free) (Function.update r l .done)) fun _ => h)
  unfold St
  rw [Ring.AtW_focus (OuP c G) b k, hk, OuP_fly, Ring.AtW_focus (RwP c G) r l, hr, RwP_gone]
  iintro ⟨Ha, ⟨HF, HR⟩, ⟨-, Hr⟩, ⟨%W, HW⟩, Ht⟩
  iapply (Transfers.wp_waitLocal EC 𝒱 (c : Thread nD τ) none () (N := (ouAt l).view.dmaCredit) rfl) $$ [HF HW]
  · isplitl [HF] <;> iassumption
  iintro ⟨⟨Ho, Hs⟩, Hv, HW⟩
  rw [wp_ret]
  imodintro
  isplitl [Ha]; · iexact Ha
  isplitl [Hs Hv HR]
  · iapply (Ring.AtW_update (OuP c G) b k .free)
    rw [OuP_free]
    isplitr [HR]
    · isplitl [Hv] <;> iassumption
    · iexact HR
  isplitl [Ho Hr]
  · iapply (Ring.AtW_update (RwP c G) r l .done)
    rw [RwP_done]
    isplitl [Ho] <;> iassumption
  isplitl [HW]; · iexists _; iexact HW
  iexact Ht

/-- Load a free output slot: anything may be read. -/
theorem load_sc {Z : sProp 𝕄} {Q : Vec F S1x4096x128 .f32 → sProp 𝕄} (k : Fin 16) (hk : b k = .free)
    {o : Fin 3 → ℕ} {h1} (e : o = ![k.val, 0, 0]) {hl}
    (h : ∀ v, St c PX G Z a b r ⊢ Q v) :
    St c PX G Z a b r ⊢ wp frame (wpE defs 𝒱 (c : Thread nD τ) none) Set.univ
      (Prog.lift (.load (Memref.whole cc0_scratch1 : Memref sig .tc .vmem S16x4096x128 .f32)
        (Rect.unit (s := S16x4096x128) o S1x4096x128.size h1).toLoadRect hl)) Q := by
  subst e
  refine BIBase.Entails.trans ?_ (wp_mono frame (wpE defs 𝒱 (c : Thread nD τ) none) Set.univ
    (Q := fun v => St c PX G Z a b r) fun v => h v)
  unfold St
  rw [Ring.AtW_focus (OuP c G) b k, hk, OuP_free]
  unfold owns
  iintro ⟨Ha, ⟨⟨Hv, ⟨%X, %f, %hf, Hs⟩⟩, HR⟩, Hr, HW, Ht⟩
  iapply (wp_load_rect 𝒱 (c : Thread nD τ) none Set.univ (m := (Memref.whole cc0_scratch1 : Memref sig .tc .vmem S16x4096x128 .f32))
    (r := Rect.unit (s := S16x4096x128) ![k.val, 0, 0] S1x4096x128.size h1) (S := (scAt k).view.set)
    (View.set_reshape _ _).symm.subset) $$ Hs
  iintro Hs
  rw [wp_ret]
  imodintro
  isplitl [Ha]; · iexact Ha
  isplitl [Hv Hs HR]
  · isplitr [HR]
    · isplitl [Hv]; · iexact Hv
      iexists X
      iexists f
      isplitr; · ipureintro; exact hf
      iexact Hs
    · iexact HR
  isplitl [Hr]; · iexact Hr
  isplitl [HW] <;> iassumption

/-- Store the final contents of row `l` in the free output slot `k`. -/
theorem store_sc {Z : sProp 𝕄} {Q : PUnit → sProp 𝕄} (k : Fin 16) (l : Fin 200) (hk : b k = .free)
    {o : Fin 3 → ℕ} {h1} (e : o = ![k.val, 0, 0]) {w : Vec F S1x4096x128 .f32} {hx hm}
    (hw : ∀ x, w (Shape.reshapeEquiv squeezes_S1x4096x128_S4096x128.numel_eq x) = gRd c G l x)
    (h : St c PX G Z a (Function.update b k (.held l)) r ⊢ Q ⟨⟩) :
    St c PX G Z a b r ⊢ wp frame (wpE defs 𝒱 (c : Thread nD τ) none) Set.univ
      (Prog.lift (.store (Memref.whole cc0_scratch1 : Memref sig .tc .vmem S16x4096x128 .f32)
        (Rect.unit (s := S16x4096x128) o S1x4096x128.size h1) w Finset.univ hx hm)) Q := by
  subst e
  refine BIBase.Entails.trans ?_ (wp_mono frame (wpE defs 𝒱 (c : Thread nD τ) none) Set.univ
    (Q := fun v => St c PX G Z a (Function.update b k (.held l)) r) fun v => h)
  unfold St
  rw [Ring.AtW_focus (OuP c G) b k, hk, OuP_free]
  unfold owns
  iintro ⟨Ha, ⟨⟨Hv, ⟨%X, %f, %hf, Hs⟩⟩, HR⟩, Hr, HW, Ht⟩
  iapply (wp_store 𝒱 (c : Thread nD τ) none Set.univ (m := (Memref.whole cc0_scratch1 : Memref sig .tc .vmem S16x4096x128 .f32))
    (r := Rect.unit (s := S16x4096x128) ![k.val, 0, 0] S1x4096x128.size h1) (S := (scAt k).view.set)
    (View.set_reshape _ _).symm.subset) $$ Hs
  iintro Hs
  rw [wp_ret]
  imodintro
  isplitl [Ha]; · iexact Ha
  isplitl [Hv Hs HR]
  · iapply (Ring.AtW_update (OuP c G) b k (.held l))
    rw [OuP_held]
    unfold owns
    isplitr [HR]
    · isplitl [Hv]; · iexact Hv
      iexists _
      isplitr
      · ipureintro
        funext x
        rw [← hw x]
        exact congrFun (View.read_write_univ (v := (Memref.whole cc0_scratch1 : Memref sig .tc .vmem S16x4096x128 .f32).access (Rect.unit (s := S16x4096x128) ![k.val, 0, 0] S1x4096x128.size h1)) f w)
          (Shape.reshapeEquiv squeezes_S1x4096x128_S4096x128.numel_eq x)
      iexact Hs
    · iexact HR
  isplitl [Hr]; · iexact Hr
  isplitl [HW] <;> iassumption

/-- What a copy out of slot `k` delivers when the slot holds the final contents of row `l`. -/
theorem landed_out (k : Fin 16) (l : Fin 200) {f : Buf (Elt F) ((scAt k).view.loc (c : Thread nD τ))} {g : Buf (Elt F) ((ouAt l).view.loc (c : Thread nD τ))}
    (hf : (scAt k).view.read (Elt F) f = gRd c G l) :
    iprop((ouRow c l ((ouAt l).view.write (Elt F) g (ReadAs.same.apply ((scAt k).view.read (Elt F) f)) Finset.univ))
        ∗ ((scAt k).view.loc (c : Thread nD τ) ↦[(scAt k).view.set]{fullShare} f))
      ⊢ (iprop(ouRow c l G ∗ (∃ X, owns (c : Thread nD τ) (scAt k) fullShare X)) : sProp 𝕄) := by
  have hc : (ouRow c l ((ouAt l).view.write (Elt F) g (ReadAs.same.apply ((scAt k).view.read (Elt F) f)) Finset.univ) : sProp 𝕄)
      = ouRow c l G := by
    refine pointsTo_congr fun i hi => ?_
    rw [hf]
    have := congrFun (View.write_read_eq_piecewise (v := (ouAt l).view) (Val := Elt F) g G Finset.univ) i
    refine Eq.trans this ?_
    exact Finset.piecewise_eq_of_mem _ _ _ hi
  rw [hc]
  iintro ⟨H1, H2⟩
  isplitl [H1]; · iexact H1
  iexists _
  iapply (owns_intro (c : Thread nD τ) (scAt k) fullShare f) $$ H2

/-- Start the copy out of slot `k`, which holds the final contents of row `l`, into that row. -/
theorem start_out {Z : sProp 𝕄} {Q : PUnit → sProp 𝕄} (k : Fin 16) (l : Fin 200) (hk : b k = .held l) (hr : r l = .todo)
    {o1 : Fin 1 → ℕ} {o2 o3 : Fin 3 → ℕ} {h1 h2 h3} (e1 : o1 = ![k.val]) (e2 : o2 = ![k.val, 0, 0]) (e3 : o3 = ![0, l.val, 0])
    {w1 w2 w3} (h : St c PX G Z a (Function.update b k (.fly l)) (Function.update r l .gone) ⊢ Q ⟨⟩) :
    St c PX G Z a b r ⊢ wp frame (wpE defs 𝒱 (c : Thread nD τ) none) Set.univ
      (Prog.lift (.enqueueDma (scV o2 h2) (.here (ouV o3 h3)) (.dma (ouS o1 h1)) w1 w2 w3)) Q := by
  subst e1 e2 e3
  refine BIBase.Entails.trans ?_ (wp_mono frame (wpE defs 𝒱 (c : Thread nD τ) none) Set.univ
    (Q := fun _ => St c PX G Z a (Function.update b k (.fly l)) (Function.update r l .gone)) fun _ => h)
  unfold St
  rw [Ring.AtW_focus (OuP c G) b k, hk, OuP_held, Ring.AtW_focus (RwP c G) r l, hr, RwP_todo]
  unfold owns
  iintro ⟨Ha, ⟨⟨Hv, ⟨%f, %hf, Hs⟩⟩, HR⟩, ⟨⟨%g, Ho⟩, Hr⟩, HW, Ht⟩
  iapply (Transfers.wp_dmaLocal EC 𝒱 (c : Thread nD τ) none () (ouAt l).view.dmaCredit
    (View.amount_dma _ _) ((ouAt l).view.dmaCredit_pos (by decide)) (Finset.Subset.refl _)) $$ [Hs Ho Hv]
  · isplitl [Hs]; · iexact Hs
    isplitl [Ho]; · iexact Ho
    iexact Hv
  iintro HF
  rw [wp_ret]
  imodintro
  isplitl [Ha]; · iexact Ha
  isplitl [HF HR]
  · iapply (Ring.AtW_update (OuP c G) b k (.fly l))
    isplitr [HR]
    · rw [OuP_fly]
      iapply (Transfers.Flight_mono EC (c : Thread nD τ) (landed_out k l hf)) $$ HF
    · iexact HR
  isplitl [Hr]
  · iapply (Ring.AtW_update (RwP c G) r l .gone)
    rw [RwP_gone]
    isplitr; · iempintro
    iexact Hr
  isplitl [HW] <;> iassumption

/-- Load through a memref held besides. -/
theorem load_held {Z Z₀ : sProp 𝕄} {s : Shape} {e : EltTy} {m : Memref sig .tc .vmem s e} {X : s.Idx → Elt F e}
    (h1 : Z ⊢ iprop(owns (c : Thread nD τ) m fullShare X ∗ Z₀)) (h2 : iprop(owns (c : Thread nD τ) m fullShare X ∗ Z₀) ⊢ Z)
    {rr : LoadRect s} {hl} {Q : (rr.shape.Idx → Elt F e) → sProp 𝕄}
    (h : St c PX G Z a b r ⊢ Q (fun x => X (rr.idx x))) :
    St c PX G Z a b r ⊢ wp frame (wpE defs 𝒱 (c : Thread nD τ) none) Set.univ (Prog.lift (.load m rr hl)) Q := by
  refine BIBase.Entails.trans ?_ (wp_mono frame (wpE defs 𝒱 (c : Thread nD τ) none) Set.univ
    (Q := fun v => iprop(⌜v = fun x => X (rr.idx x)⌝ ∗ St c PX G Z a b r)) fun v => ?_)
  · unfold St
    iintro ⟨Ha, Hb, Hr, HW, Ht⟩
    ihave Hz := h1 $$ Ht
    unfold owns
    icases Hz with ⟨⟨%f, %hf, Hm⟩, Hz⟩
    iapply (wp_load 𝒱 (c : Thread nD τ) none Set.univ (S := m.view.set) (View.setOn_subset_set m.view _)) $$ Hm
    iintro Hm
    rw [wp_ret]
    imodintro
    isplitr
    · ipureintro; funext x; rw [← hf]; rfl
    isplitl [Ha]; · iexact Ha
    isplitl [Hb]; · iexact Hb
    isplitl [Hr]; · iexact Hr
    isplitl [HW]; · iexact HW
    iapply h2
    unfold owns
    isplitl [Hm]
    · iexists f
      isplitr; · ipureintro; exact hf
      iexact Hm
    · iexact Hz
  · iintro ⟨%hv, H⟩
    subst hv
    iapply h $$ H

end Cert.KernelIdeal.Hand
end
-- ==== Proof.State.lean ====
/-
  The rings' states as counters, and the operations on them.

  At any point of the launch the input ring has rows `lo` to `hi - 1` under way, each in the slot its number names
  modulo twenty-four; the output ring likewise modulo sixteen; the result's rows below the output ring's `lo` are
  written, those between are lent to copies, and those above are not written yet.
-/
module

public import proofs.«01_k».proof.Proof.Slots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Row number `n` (below two hundred) as an index. -/
def rowNo (n : ℕ) : Fin 200 := ⟨n % 200, Nat.mod_lt _ (by decide)⟩

theorem rowNo_val {n : ℕ} (h : n < 200) : (rowNo n).val = n := Nat.mod_eq_of_lt h

/-- The first row from `lo` on whose number is `k` modulo `n`. -/
def firstAt (n lo k : ℕ) : ℕ := lo + (k + (n - lo % n)) % n

theorem firstAt_mod {n lo k : ℕ} (hk : k < n) : firstAt n lo k % n = k := by
  have hlt := Nat.mod_lt lo (by omega : 0 < n)
  unfold firstAt
  rw [Nat.add_mod, Nat.mod_mod, ← Nat.add_mod]
  have : lo + (k + (n - lo % n)) = k + n * (lo / n + 1) := by
    have := Nat.div_add_mod lo n
    rw [Nat.mul_add]
    omega
  rw [this, Nat.add_mul_mod_self_left, Nat.mod_eq_of_lt hk]

theorem le_firstAt (n lo k : ℕ) : lo ≤ firstAt n lo k := Nat.le_add_right _ _

theorem firstAt_lt {n lo k : ℕ} (hn : 0 < n) : firstAt n lo k < lo + n := by
  unfold firstAt
  have := Nat.mod_lt (k + (n - lo % n)) hn
  omega

/-- Two numbers within `n` of each other and equal modulo `n` are equal. -/
theorem eq_of_mod {n x y lo : ℕ} (hx : lo ≤ x) (hx' : x < lo + n) (hy : lo ≤ y) (hy' : y < lo + n) (h : x % n = y % n) : x = y := by
  rcases Nat.le_total x y with hxy | hxy
  · rcases Nat.eq_zero_or_pos (y - x) with h0 | h0
    · omega
    · have := Nat.le_of_dvd h0 (Nat.dvd_of_mod_eq_zero (Nat.sub_mod_eq_zero_of_mod_eq h.symm)); omega
  · rcases Nat.eq_zero_or_pos (x - y) with h0 | h0
    · omega
    · have := Nat.le_of_dvd h0 (Nat.dvd_of_mod_eq_zero (Nat.sub_mod_eq_zero_of_mod_eq h)); omega

theorem firstAt_eq {n lo l : ℕ} (h : lo ≤ l) (h' : l < lo + n) : firstAt n lo (l % n) = l :=
  have hn : 0 < n := by omega
  eq_of_mod (le_firstAt _ _ _) (firstAt_lt hn) h h' (firstAt_mod (Nat.mod_lt _ hn))

/-- A ring of `n` slots with rows `lo` to `hi - 1` under way. -/
def ringF (n lo hi : ℕ) (k : Fin n) : Ph := if firstAt n lo k.val < hi then .fly (rowNo (firstAt n lo k.val)) else .free

/-- Slot of row `l`. -/
abbrev slotNo (n : ℕ) [NeZero n] (l : ℕ) : Fin n := ⟨l % n, Nat.mod_lt _ (Nat.pos_of_neZero n)⟩

section Ring
variable {n : ℕ} [NeZero n]

theorem ringF_free {lo hi : ℕ} (h : lo ≤ hi) (h' : hi < lo + n) : ringF n lo hi (slotNo n hi) = .free := by
  unfold ringF
  rw [firstAt_eq h h', if_neg (lt_irrefl _)]

theorem ringF_start {lo hi : ℕ} (h : lo ≤ hi) (h' : hi < lo + n) :
    Function.update (ringF n lo hi) (slotNo n hi) (.fly (rowNo hi)) = ringF n lo (hi + 1) := by
  funext k
  by_cases hk : k = slotNo n hi
  · subst hk
    rw [Function.update_self]
    unfold ringF
    rw [firstAt_eq h h', if_pos (Nat.lt_succ_self _)]
  · rw [Function.update_of_ne hk]
    unfold ringF
    have hne : firstAt n lo k.val ≠ hi := fun he => hk (Fin.ext (by rw [← firstAt_mod (lo := lo) k.isLt, he]))
    by_cases hc : firstAt n lo k.val < hi
    · rw [if_pos hc, if_pos (by omega)]
    · rw [if_neg hc, if_neg (by omega)]

theorem ringF_first {lo hi : ℕ} (h : lo < hi) : ringF n lo hi (slotNo n lo) = .fly (rowNo lo) := by
  unfold ringF
  rw [firstAt_eq (le_refl _) (by have := Nat.pos_of_neZero n; omega), if_pos h]

theorem ringF_take {lo hi : ℕ} (h : hi ≤ lo + n) :
    Function.update (ringF n lo hi) (slotNo n lo) .free = ringF n (lo + 1) hi := by
  have hn := Nat.pos_of_neZero n
  funext k
  by_cases hk : k = slotNo n lo
  · subst hk
    rw [Function.update_self]
    unfold ringF
    have he : firstAt n (lo + 1) (slotNo n lo).val = lo + n := by
      have := firstAt_eq (n := n) (lo := lo + 1) (l := lo + n) (by omega) (by omega)
      rwa [Nat.add_mod_right] at this
    rw [he, if_neg (by omega)]
  · rw [Function.update_of_ne hk]
    have hne : firstAt n lo k.val ≠ lo := fun he => hk (Fin.ext (by rw [← firstAt_mod (lo := lo) k.isLt, he]))
    have hle := le_firstAt n lo k.val
    have he : firstAt n (lo + 1) k.val = firstAt n lo k.val :=
      eq_of_mod (lo := lo + 1) (le_firstAt _ _ _) (firstAt_lt hn) (by omega) (by have := firstAt_lt (lo := lo) (k := k.val) hn; omega)
        (by rw [firstAt_mod k.isLt, firstAt_mod k.isLt])
    unfold ringF
    rw [he]

theorem ringF_last {lo hi : ℕ} (h : lo ≤ hi) (h' : hi < lo + n) : ringF n lo (hi + 1) (slotNo n hi) = .fly (rowNo hi) := by
  rw [← ringF_start h h', Function.update_self]

theorem ringF_drop {lo hi : ℕ} (h : lo ≤ hi) (h' : hi < lo + n) :
    Function.update (ringF n lo (hi + 1)) (slotNo n hi) .free = ringF n lo hi := by
  rw [← ringF_start h h', Function.update_idem, ← ringF_free h h', Function.update_eq_self]

theorem ringF_empty (lo : ℕ) (k : Fin n) : ringF n lo lo k = .free := by
  unfold ringF
  rw [if_neg (by have := le_firstAt n lo k.val; omega)]

end Ring

/-- The result's rows: written below `lo` and from `hi` to `st - 1`, lent to copies from `lo` to `hi - 1`. -/
def rowF (lo hi st : ℕ) (l : Fin 200) : Rw :=
  if l.val < lo then .done else if l.val < hi then .gone else if l.val < st then .done else .todo

theorem rowF_todo {lo hi : ℕ} (h : lo ≤ hi) (h' : hi < 200) : rowF lo hi hi (rowNo hi) = .todo := by
  unfold rowF
  rw [rowNo_val h', if_neg (by omega), if_neg (by omega), if_neg (by omega)]

theorem rowF_start {lo hi : ℕ} (h : lo ≤ hi) (h' : hi < 200) :
    Function.update (rowF lo hi hi) (rowNo hi) .gone = rowF lo (hi + 1) (hi + 1) := by
  funext l
  have hv := rowNo_val h'
  by_cases hl : l = rowNo hi
  · subst hl
    rw [Function.update_self]
    unfold rowF
    rw [hv, if_neg (by omega), if_pos (by omega)]
  · have hne : l.val ≠ hi := fun he => hl (Fin.ext (by rw [he, hv]))
    rw [Function.update_of_ne hl]
    unfold rowF
    by_cases h1 : l.val < lo
    · rw [if_pos h1, if_pos h1]
    · by_cases h2 : l.val < hi
      · rw [if_neg h1, if_neg h1, if_pos h2, if_pos (by omega)]
      · rw [if_neg h1, if_neg h1, if_neg h2, if_neg h2, if_neg (by omega), if_neg (by omega)]

theorem rowF_gone {lo hi st l : ℕ} (h : lo ≤ l) (h' : l < hi) (h2 : l < 200) : rowF lo hi st (rowNo l) = .gone := by
  unfold rowF
  rw [rowNo_val h2, if_neg (by omega), if_pos (by omega)]

theorem rowF_take {lo hi st : ℕ} (h : lo < hi) (h2 : lo < 200) :
    Function.update (rowF lo hi st) (rowNo lo) .done = rowF (lo + 1) hi st := by
  funext l
  have hv := rowNo_val h2
  by_cases hl : l = rowNo lo
  · subst hl
    rw [Function.update_self]
    unfold rowF
    rw [hv, if_pos (by omega)]
  · have hne : l.val ≠ lo := fun he => hl (Fin.ext (by rw [he, hv]))
    rw [Function.update_of_ne hl]
    unfold rowF
    by_cases h1 : l.val < lo
    · rw [if_pos h1, if_pos (by omega)]
    · rw [if_neg h1, if_neg (show ¬ l.val < lo + 1 by omega)]

theorem rowF_drop {lo hi st : ℕ} (h : lo ≤ hi) (hs : hi < st) (h2 : hi < 200) :
    Function.update (rowF lo (hi + 1) st) (rowNo hi) .done = rowF lo hi st := by
  funext l
  have hv := rowNo_val h2
  by_cases hl : l = rowNo hi
  · subst hl
    rw [Function.update_self]
    unfold rowF
    rw [hv, if_neg (by omega), if_neg (by omega), if_pos hs]
  · have hne : l.val ≠ hi := fun he => hl (Fin.ext (by rw [he, hv]))
    rw [Function.update_of_ne hl]
    unfold rowF
    by_cases h1 : l.val < lo
    · rw [if_pos h1, if_pos h1]
    · by_cases h3 : l.val < hi
      · rw [if_neg h1, if_neg h1, if_pos h3, if_pos (by omega)]
      · rw [if_neg h1, if_neg h1, if_neg h3, if_neg (by omega)]

theorem rowF_all {lo : ℕ} (l : Fin 200) : rowF lo lo 200 l = .done := by
  unfold rowF
  have := l.isLt
  by_cases h1 : l.val < lo
  · rw [if_pos h1]
  · rw [if_neg h1, if_neg h1, if_pos this]

theorem rowF_none (l : Fin 200) : rowF 0 0 0 l = .todo := rfl

variable {F : FTy → Type} [FloatOps F]

local notation "𝕄" => MT nD τ sig Unit (Elt F) ℕ (Pipeline.UD sig nD τ) ℕ

variable (c : Dev nD)
variable (PX : Buf (Elt F) ((c : Thread nD τ).loc main_v0)) (G : Buf (Elt F) ((c : Thread nD τ).loc main_v11))

/-- The state at counters: input rows `ilo` to `ihi - 1` under way, output rows `olo` to `ohi - 1`, rows below `ost`
written or lent. -/
def T (Z : sProp 𝕄) (ilo ihi olo ohi ost : ℕ) : sProp 𝕄 := St c PX G Z (ringF 24 ilo ihi) (ringF 16 olo ohi) (rowF olo ohi ost)

/-- The same with the first input row landed. -/
def TI (Z : sProp 𝕄) (ilo ihi olo ohi ost : ℕ) : sProp 𝕄 :=
  St c PX G Z (Function.update (ringF 24 ilo ihi) (slotNo 24 ilo) (.held (rowNo ilo))) (ringF 16 olo ohi) (rowF olo ohi ost)

/-- The same with the next output row's block stored in its slot. -/
def TO (Z : sProp 𝕄) (ilo ihi olo ohi ost : ℕ) : sProp 𝕄 :=
  St c PX G Z (ringF 24 ilo ihi) (Function.update (ringF 16 olo ohi) (slotNo 16 ohi) (.held (rowNo ohi))) (rowF olo ohi ost)

variable {c PX G}
variable {defs : Defs nD τ sig (Elt F) Λ₀} {𝒱 : Variants}
variable {ilo ihi olo ohi ost : ℕ}

/-- One step of a program: run its first piece. -/
theorem bind_step {α β : Type} {P : sProp 𝕄} {p : Prog (TpuEff nD τ sig (Elt F) Λ₀ .tc) α} {k : α → Prog (TpuEff nD τ sig (Elt F) Λ₀ .tc) β} {Q : β → sProp 𝕄}
    (h : P ⊢ wp frame (wpE defs 𝒱 (c : Thread nD τ) none) Set.univ p (fun a => wp frame (wpE defs 𝒱 (c : Thread nD τ) none) Set.univ (k a) Q)) :
    P ⊢ wp frame (wpE defs 𝒱 (c : Thread nD τ) none) Set.univ (p >>= k) Q := by
  rw [wp_bind]
  exact h

/-- The end of a program. -/
theorem pure_step {α : Type} {P : sProp 𝕄} {x : α} {Q : α → sProp 𝕄} (h : P ⊢ Q x) :
    P ⊢ wp frame (wpE defs 𝒱 (c : Thread nD τ) none) Set.univ (pure x : Prog (TpuEff nD τ sig (Elt F) Λ₀ .tc) α) Q := by
  rw [wp_pure]
  iintro H
  imodintro
  iapply h $$ H

/-- A slot whose block has been read may be written over. -/
theorem St_release {Z : sProp 𝕄} {a : Fin 24 → Ph} {b : Fin 16 → Ph} {r : Fin 200 → Rw} (k : Fin 24) (l : Fin 200) (hk : a k = .held l) :
    St c PX G Z a b r ⊢ St c PX G Z (Function.update a k .free) b r := by
  unfold St
  rw [Ring.AtW_focus (InP c PX) a k, hk, InP_held]
  iintro ⟨⟨⟨Hv, Hs, Hp⟩, HR⟩, Hb, Hr, HW, Ht⟩
  isplitl [Hv Hs Hp HR]
  · iapply (Ring.AtW_update (InP c PX) a k .free)
    rw [InP_free]
    isplitr [HR]
    · isplitl [Hv]; · iexact Hv
      isplitl [Hs]
      · iexists _; iexact Hs
      iexact Hp
    · iexact HR
  isplitl [Hb]; · iexact Hb
  isplitl [Hr]; · iexact Hr
  isplitl [HW] <;> iassumption

theorem T_start_in {Z : sProp 𝕄} {β : Type} {k : PUnit → Prog (TpuEff nD τ sig (Elt F) Λ₀ .tc) β} {Q : β → sProp 𝕄} (hle : ilo ≤ ihi) (hlt : ihi < ilo + 24) (h200 : ihi < 200)
    {o1 : Fin 1 → ℕ} {o2 o3 : Fin 3 → ℕ} {h1 h2 h3} (e1 : o1 = ![ihi % 24]) (e2 : o2 = ![ihi % 24, 0, 0]) (e3 : o3 = ![0, ihi, 0])
    {w1 w2 w3} (h : T c PX G Z ilo (ihi + 1) olo ohi ost ⊢ wp frame (wpE defs 𝒱 (c : Thread nD τ) none) Set.univ (k ⟨⟩) Q) :
    T c PX G Z ilo ihi olo ohi ost ⊢ wp frame (wpE defs 𝒱 (c : Thread nD τ) none) Set.univ
      (Prog.lift (.enqueueDma (pxV o3 h3) (.here (inV o2 h2)) (.dma (inS o1 h1)) w1 w2 w3) >>= k) Q := by
  refine bind_step (start_in (slotNo 24 ihi) (rowNo ihi) (ringF_free hle hlt) e1 e2 (by rw [rowNo_val h200]; exact e3) ?_)
  rw [ringF_start hle hlt]
  exact h

theorem T_wait_in {Z : sProp 𝕄} {β : Type} {k : PUnit → Prog (TpuEff nD τ sig (Elt F) Λ₀ .tc) β} {Q : β → sProp 𝕄} (hlt : ilo < ihi)
    {o1 : Fin 1 → ℕ} {o2 o3 : Fin 3 → ℕ} {h1 h2 h3} (e1 : o1 = ![ilo % 24]) (e2 : o2 = ![ilo % 24, 0, 0])
    {w1 w2} (h : TI c PX G Z ilo ihi olo ohi ost ⊢ wp frame (wpE defs 𝒱 (c : Thread nD τ) none) Set.univ (k ⟨⟩) Q) :
    T c PX G Z ilo ihi olo ohi ost ⊢ wp frame (wpE defs 𝒱 (c : Thread nD τ) none) Set.univ
      (Prog.lift (.waitDma2 (inS o1 h1) (pxV o3 h3) (inV o2 h2) w1 w2) >>= k) Q :=
  bind_step (wait_in (slotNo 24 ilo) (rowNo ilo) (ringF_first hlt) e1 e2 h)

theorem T_load_in {Z : sProp 𝕄} {β : Type} {k : Vec F S1x45x4096 .f32 → Prog (TpuEff nD τ sig (Elt F) Λ₀ .tc) β} {Q : β → sProp 𝕄} (hhi : ihi ≤ ilo + 24)
    {o : Fin 3 → ℕ} {h1} (e : o = ![ilo % 24, 0, 0]) {hl}
    (h : T c PX G Z (ilo + 1) ihi olo ohi ost ⊢ wp frame (wpE defs 𝒱 (c : Thread nD τ) none) Set.univ (k (pxBlk c PX (rowNo ilo))) Q) :
    TI c PX G Z ilo ihi olo ohi ost ⊢ wp frame (wpE defs 𝒱 (c : Thread nD τ) none) Set.univ
      (Prog.lift (.load (Memref.whole cc0_scratch0 : Memref sig .tc .vmem S24x45x4096 .f32)
        (Rect.unit (s := S24x45x4096) o S1x45x4096.size h1).toLoadRect hl) >>= k) Q := by
  refine bind_step (load_in (slotNo 24 ilo) (rowNo ilo) (Function.update_self ..) e ?_)
  refine BIBase.Entails.trans (St_release (slotNo 24 ilo) (rowNo ilo) (Function.update_self ..)) ?_
  rw [Function.update_idem, ringF_take hhi]
  exact h

theorem T_wait_out {Z : sProp 𝕄} {β : Type} {k : PUnit → Prog (TpuEff nD τ sig (Elt F) Λ₀ .tc) β} {Q : β → sProp 𝕄} (hlt : olo < ohi) (hhi : ohi ≤ olo + 16) (h200 : olo < 200)
    {o1 : Fin 1 → ℕ} {o2 o3 : Fin 3 → ℕ} {h1 h2 h3} (e1 : o1 = ![olo % 16]) (e3 : o3 = ![0, olo, 0])
    {w1 w2} (h : T c PX G Z ilo ihi (olo + 1) ohi ost ⊢ wp frame (wpE defs 𝒱 (c : Thread nD τ) none) Set.univ (k ⟨⟩) Q) :
    T c PX G Z ilo ihi olo ohi ost ⊢ wp frame (wpE defs 𝒱 (c : Thread nD τ) none) Set.univ
      (Prog.lift (.waitDma2 (ouS o1 h1) (scV o2 h2) (ouV o3 h3) w1 w2) >>= k) Q := by
  refine bind_step (wait_out (slotNo 16 olo) (rowNo olo) (ringF_first hlt) (rowF_gone (le_refl _) hlt h200) e1 (by rw [rowNo_val h200]; exact e3) ?_)
  rw [ringF_take hhi, rowF_take hlt h200]
  exact h

/-- At the end the copies out are waited for from the last row down. -/
theorem T_drain_out {Z : sProp 𝕄} {β : Type} {k : PUnit → Prog (TpuEff nD τ sig (Elt F) Λ₀ .tc) β} {Q : β → sProp 𝕄} (hle : olo ≤ ohi) (hhi : ohi < olo + 16) (hst : ohi < ost) (h200 : ohi < 200)
    {o1 : Fin 1 → ℕ} {o2 o3 : Fin 3 → ℕ} {h1 h2 h3} (e1 : o1 = ![ohi % 16]) (e3 : o3 = ![0, ohi, 0])
    {w1 w2} (h : T c PX G Z ilo ihi olo ohi ost ⊢ wp frame (wpE defs 𝒱 (c : Thread nD τ) none) Set.univ (k ⟨⟩) Q) :
    T c PX G Z ilo ihi olo (ohi + 1) ost ⊢ wp frame (wpE defs 𝒱 (c : Thread nD τ) none) Set.univ
      (Prog.lift (.waitDma2 (ouS o1 h1) (scV o2 h2) (ouV o3 h3) w1 w2) >>= k) Q := by
  refine bind_step (wait_out (slotNo 16 ohi) (rowNo ohi) (ringF_last hle hhi) (rowF_gone hle (Nat.lt_succ_self _) h200) e1 (by rw [rowNo_val h200]; exact e3) ?_)
  rw [ringF_drop hle hhi, rowF_drop hle hst h200]
  exact h

theorem T_load_sc {Z : sProp 𝕄} {β : Type} {k : Vec F S1x4096x128 .f32 → Prog (TpuEff nD τ sig (Elt F) Λ₀ .tc) β} {Q : β → sProp 𝕄} (hle : olo ≤ ohi) (hlt : ohi < olo + 16)
    {o : Fin 3 → ℕ} {h1} (e : o = ![ohi % 16, 0, 0]) {hl}
    (h : ∀ v, T c PX G Z ilo ihi olo ohi ost ⊢ wp frame (wpE defs 𝒱 (c : Thread nD τ) none) Set.univ (k v) Q) :
    T c PX G Z ilo ihi olo ohi ost ⊢ wp frame (wpE defs 𝒱 (c : Thread nD τ) none) Set.univ
      (Prog.lift (.load (Memref.whole cc0_scratch1 : Memref sig .tc .vmem S16x4096x128 .f32)
        (Rect.unit (s := S16x4096x128) o S1x4096x128.size h1).toLoadRect hl) >>= k) Q :=
  bind_step (load_sc (slotNo 16 ohi) (ringF_free hle hlt) e h)

theorem T_store_sc {Z : sProp 𝕄} {β : Type} {k : PUnit → Prog (TpuEff nD τ sig (Elt F) Λ₀ .tc) β} {Q : β → sProp 𝕄} (hle : olo ≤ ohi) (hlt : ohi < olo + 16)
    {o : Fin 3 → ℕ} {h1} (e : o = ![ohi % 16, 0, 0]) {w : Vec F S1x4096x128 .f32}
    (hw : ∀ x, w (Shape.reshapeEquiv squeezes_S1x4096x128_S4096x128.numel_eq x) = gRd c G (rowNo ohi) x) {hl hm}
    (h : TO c PX G Z ilo ihi olo ohi ost ⊢ wp frame (wpE defs 𝒱 (c : Thread nD τ) none) Set.univ (k ⟨⟩) Q) :
    T c PX G Z ilo ihi olo ohi ost ⊢ wp frame (wpE defs 𝒱 (c : Thread nD τ) none) Set.univ
      (Prog.lift (.store (Memref.whole cc0_scratch1 : Memref sig .tc .vmem S16x4096x128 .f32)
        (Rect.unit (s := S16x4096x128) o S1x4096x128.size h1) w Finset.univ hl hm) >>= k) Q :=
  bind_step (store_sc (slotNo 16 ohi) (rowNo ohi) (ringF_free hle hlt) e hw h)

theorem T_start_out {Z : sProp 𝕄} {β : Type} {k : PUnit → Prog (TpuEff nD τ sig (Elt F) Λ₀ .tc) β} {Q : β → sProp 𝕄} (hle : olo ≤ ohi) (hlt : ohi < olo + 16) (h200 : ohi < 200)
    {o1 : Fin 1 → ℕ} {o2 o3 : Fin 3 → ℕ} {h1 h2 h3} (e1 : o1 = ![ohi % 16]) (e2 : o2 = ![ohi % 16, 0, 0]) (e3 : o3 = ![0, ohi, 0])
    {w1 w2 w3} (h : T c PX G Z ilo ihi olo (ohi + 1) (ohi + 1) ⊢ wp frame (wpE defs 𝒱 (c : Thread nD τ) none) Set.univ (k ⟨⟩) Q) :
    TO c PX G Z ilo ihi olo ohi ohi ⊢ wp frame (wpE defs 𝒱 (c : Thread nD τ) none) Set.univ
      (Prog.lift (.enqueueDma (scV o2 h2) (.here (ouV o3 h3)) (.dma (ouS o1 h1)) w1 w2 w3) >>= k) Q := by
  refine bind_step (start_out (slotNo 16 ohi) (rowNo ohi) (Function.update_self ..) (rowF_todo hle h200) e1 e2 (by rw [rowNo_val h200]; exact e3) ?_)
  rw [Function.update_idem, ringF_start hle hlt, rowF_start hle h200]
  exact h

/-- A copy in started while rows remain: one of the eight a step starts ahead. -/
theorem T_ahead {Z : sProp 𝕄} {β : Type} {J : Prog (TpuEff nD τ sig (Elt F) Λ₀ .tc) β} {Q : β → sProp 𝕄} (n : ℕ) (hle : ilo ≤ n) (hlo : ilo ≤ 200) (hlt : n < ilo + 24)
    {cond : BitVec 1} (hc : cond = 1#1 ↔ n < 200)
    {o1 : Fin 1 → ℕ} {o2 o3 : Fin 3 → ℕ} {h1 : cond = 1#1 → ∀ a, o1 a + S1.size a ≤ S24.size a}
    {h2 : cond = 1#1 → ∀ a, o2 a + S1x45x4096.size a ≤ S24x45x4096.size a} {h3 : cond = 1#1 → ∀ a, o3 a + S45x1x4096.size a ≤ S45x200x4096.size a}
    (e1 : o1 = ![n % 24]) (e2 : o2 = ![n % 24, 0, 0]) (e3 : o3 = ![0, n, 0])
    {w1 : ∀ hh : cond = 1#1, _} {w2 : ∀ hh : cond = 1#1, _} {w3 : ∀ hh : cond = 1#1, _} (h : T c PX G Z ilo (min (n + 1) 200) olo ohi ost ⊢ wp frame (wpE defs 𝒱 (c : Thread nD τ) none) Set.univ J Q) :
    T c PX G Z ilo (min n 200) olo ohi ost ⊢ wp frame (wpE defs 𝒱 (c : Thread nD τ) none) Set.univ
      (if hh : cond = 1#1 then
        Prog.lift (.enqueueDma (pxV o3 (h3 hh)) (.here (inV o2 (h2 hh))) (.dma (inS o1 (h1 hh))) (w1 hh) (w2 hh) (w3 hh)) >>= fun _ => J
       else J) Q := by
  by_cases hh : cond = 1#1
  · rw [dif_pos hh]
    have hn := hc.mp hh
    rw [Nat.min_eq_left (by omega)] at h
    rw [Nat.min_eq_left (by omega)]
    exact T_start_in hle hlt hn e1 e2 e3 h
  · rw [dif_neg hh]
    have hn : ¬ n < 200 := fun hn => hh (hc.mpr hn)
    rw [Nat.min_eq_right (by omega)] at h
    rw [Nat.min_eq_right (by omega)]
    exact h

/-- The wait for the copy out that used the next row's slot before, if there was one. -/
theorem T_before {Z : sProp 𝕄} {β : Type} {J : Prog (TpuEff nD τ sig (Elt F) Λ₀ .tc) β} {Q : β → sProp 𝕄} (n : ℕ) (hn : n < 200)
    {cond : BitVec 1} (hc : cond = 1#1 ↔ 16 ≤ n)
    {o1 : Fin 1 → ℕ} {o2 o3 : Fin 3 → ℕ} {h1 : cond = 1#1 → ∀ a, o1 a + S1.size a ≤ S16.size a}
    {h2 : cond = 1#1 → ∀ a, o2 a + S1x4096x128.size a ≤ S16x4096x128.size a} {h3 : cond = 1#1 → ∀ a, o3 a + S4096x1x128.size a ≤ S4096x200x128.size a}
    (e1 : o1 = ![n % 16]) (e3 : cond = 1#1 → o3 = ![0, n - 16, 0])
    {w1 : ∀ hh : cond = 1#1, _} {w2 : ∀ hh : cond = 1#1, _} (h : T c PX G Z ilo ihi (n + 1 - 16) n n ⊢ wp frame (wpE defs 𝒱 (c : Thread nD τ) none) Set.univ J Q) :
    T c PX G Z ilo ihi (n - 16) n n ⊢ wp frame (wpE defs 𝒱 (c : Thread nD τ) none) Set.univ
      (if hh : cond = 1#1 then
        Prog.lift (.waitDma2 (ouS o1 (h1 hh)) (scV o2 (h2 hh)) (ouV o3 (h3 hh)) (w1 hh) (w2 hh)) >>= fun _ => J
       else J) Q := by
  by_cases hh : cond = 1#1
  · rw [dif_pos hh]
    have h16 := hc.mp hh
    rw [show n + 1 - 16 = (n - 16) + 1 by omega] at h
    exact T_wait_out (by omega) (by omega) (by omega) (by rw [e1]; congr 1; omega) (e3 hh) h
  · rw [dif_neg hh]
    have h16 : ¬ 16 ≤ n := fun h' => hh (hc.mpr h')
    rw [show n + 1 - 16 = n - 16 by omega] at h
    exact h

/-- A load through a window held besides the rings. -/
theorem T_load {Z Z₀ : sProp 𝕄} {β : Type} {s : Shape} {e : EltTy} {m : Memref sig .tc .vmem s e} {X : s.Idx → Elt F e}
    (h1 : Z ⊢ iprop(owns (c : Thread nD τ) m fullShare X ∗ Z₀)) (h2 : iprop(owns (c : Thread nD τ) m fullShare X ∗ Z₀) ⊢ Z)
    {rr : LoadRect s} {hl} {k : (rr.shape.Idx → Elt F e) → Prog (TpuEff nD τ sig (Elt F) Λ₀ .tc) β} {Q : β → sProp 𝕄}
    (h : T c PX G Z ilo ihi olo ohi ost ⊢ wp frame (wpE defs 𝒱 (c : Thread nD τ) none) Set.univ (k (fun x => X (rr.idx x))) Q) :
    T c PX G Z ilo ihi olo ohi ost ⊢ wp frame (wpE defs 𝒱 (c : Thread nD τ) none) Set.univ (Prog.lift (.load m rr hl) >>= k) Q :=
  bind_step (load_held h1 h2 h)

end Cert.KernelIdeal.Hand
end
-- ==== Proof.Offsets.lean ====
/-
  The kernel's computed offsets and conditions in closed form: which slot and which row each access of grid step `i`
  names.
-/
module

public import proofs.«01_k».proof.Proof.Gen.KernelIdeal.Launch
public import proofs.«01_k».proof.Proof.Gen.KernelIdeal.Points

@[expose] public section

set_option maxRecDepth 16384

namespace Cert.KernelIdeal.Hand

open Cert.KernelIdeal Cert.KernelIdeal.Gen
open Idealize.ShloMosaic

/-! ## The copies in started by a step: row `8 i + 16 + j`, slot that row modulo 24 -/

theorem cond2_eq : ∀ i : grid0.Coords, (k0_cond2 i = 1#1 ↔ 8 * (i 0).val + 16 < 200) := by decide +kernel
theorem off1_eq : ∀ i : grid0.Coords, k0_off1 i = ![(8 * (i 0).val + 16) % 24] := by decide +kernel
theorem off2_eq : ∀ i : grid0.Coords, k0_off2 i = ![(8 * (i 0).val + 16) % 24, 0, 0] := by decide +kernel
theorem off3_eq : ∀ i : grid0.Coords, k0_off3 i = ![0, 8 * (i 0).val + 16, 0] := by decide +kernel
theorem cond3_eq : ∀ i : grid0.Coords, (k0_cond3 i = 1#1 ↔ 8 * (i 0).val + 17 < 200) := by decide +kernel
theorem off4_eq : ∀ i : grid0.Coords, k0_off4 i = ![(8 * (i 0).val + 17) % 24] := by decide +kernel
theorem off5_eq : ∀ i : grid0.Coords, k0_off5 i = ![(8 * (i 0).val + 17) % 24, 0, 0] := by decide +kernel
theorem off6_eq : ∀ i : grid0.Coords, k0_off6 i = ![0, 8 * (i 0).val + 17, 0] := by decide +kernel
theorem cond4_eq : ∀ i : grid0.Coords, (k0_cond4 i = 1#1 ↔ 8 * (i 0).val + 18 < 200) := by decide +kernel
theorem off7_eq : ∀ i : grid0.Coords, k0_off7 i = ![(8 * (i 0).val + 18) % 24] := by decide +kernel
theorem off8_eq : ∀ i : grid0.Coords, k0_off8 i = ![(8 * (i 0).val + 18) % 24, 0, 0] := by decide +kernel
theorem off9_eq : ∀ i : grid0.Coords, k0_off9 i = ![0, 8 * (i 0).val + 18, 0] := by decide +kernel
theorem cond5_eq : ∀ i : grid0.Coords, (k0_cond5 i = 1#1 ↔ 8 * (i 0).val + 19 < 200) := by decide +kernel
theorem off10_eq : ∀ i : grid0.Coords, k0_off10 i = ![(8 * (i 0).val + 19) % 24] := by decide +kernel
theorem off11_eq : ∀ i : grid0.Coords, k0_off11 i = ![(8 * (i 0).val + 19) % 24, 0, 0] := by decide +kernel
theorem off12_eq : ∀ i : grid0.Coords, k0_off12 i = ![0, 8 * (i 0).val + 19, 0] := by decide +kernel
theorem cond6_eq : ∀ i : grid0.Coords, (k0_cond6 i = 1#1 ↔ 8 * (i 0).val + 20 < 200) := by decide +kernel
theorem off13_eq : ∀ i : grid0.Coords, k0_off13 i = ![(8 * (i 0).val + 20) % 24] := by decide +kernel
theorem off14_eq : ∀ i : grid0.Coords, k0_off14 i = ![(8 * (i 0).val + 20) % 24, 0, 0] := by decide +kernel
theorem off15_eq : ∀ i : grid0.Coords, k0_off15 i = ![0, 8 * (i 0).val + 20, 0] := by decide +kernel
theorem cond7_eq : ∀ i : grid0.Coords, (k0_cond7 i = 1#1 ↔ 8 * (i 0).val + 21 < 200) := by decide +kernel
theorem off16_eq : ∀ i : grid0.Coords, k0_off16 i = ![(8 * (i 0).val + 21) % 24] := by decide +kernel
theorem off17_eq : ∀ i : grid0.Coords, k0_off17 i = ![(8 * (i 0).val + 21) % 24, 0, 0] := by decide +kernel
theorem off18_eq : ∀ i : grid0.Coords, k0_off18 i = ![0, 8 * (i 0).val + 21, 0] := by decide +kernel
theorem cond8_eq : ∀ i : grid0.Coords, (k0_cond8 i = 1#1 ↔ 8 * (i 0).val + 22 < 200) := by decide +kernel
theorem off19_eq : ∀ i : grid0.Coords, k0_off19 i = ![(8 * (i 0).val + 22) % 24] := by decide +kernel
theorem off20_eq : ∀ i : grid0.Coords, k0_off20 i = ![(8 * (i 0).val + 22) % 24, 0, 0] := by decide +kernel
theorem off21_eq : ∀ i : grid0.Coords, k0_off21 i = ![0, 8 * (i 0).val + 22, 0] := by decide +kernel
theorem cond9_eq : ∀ i : grid0.Coords, (k0_cond9 i = 1#1 ↔ 8 * (i 0).val + 23 < 200) := by decide +kernel
theorem off22_eq : ∀ i : grid0.Coords, k0_off22 i = ![(8 * (i 0).val + 23) % 24] := by decide +kernel
theorem off23_eq : ∀ i : grid0.Coords, k0_off23 i = ![(8 * (i 0).val + 23) % 24, 0, 0] := by decide +kernel
theorem off24_eq : ∀ i : grid0.Coords, k0_off24 i = ![0, 8 * (i 0).val + 23, 0] := by decide +kernel

/-! ## The copies out a step waits for: row `8 i + j - 16` -/

theorem cond10_eq : ∀ i : grid0.Coords, (k0_cond10 i = 1#1 ↔ 16 ≤ 8 * (i 0).val + 0) := by decide +kernel
theorem off25_eq : ∀ i : grid0.Coords, k0_off25 i = ![(8 * (i 0).val + 0) % 16] := by decide +kernel
theorem off26_eq : ∀ i : grid0.Coords, k0_cond10 i = 1#1 → k0_off26 i = ![0, 8 * (i 0).val + 0 - 16, 0] := by decide +kernel
theorem off27_eq : ∀ i : grid0.Coords, k0_off27 i = ![(8 * (i 0).val + 0) % 16, 0, 0] := by decide +kernel
theorem cond11_eq : ∀ i : grid0.Coords, (k0_cond11 i = 1#1 ↔ 16 ≤ 8 * (i 0).val + 1) := by decide +kernel
theorem off37_eq : ∀ i : grid0.Coords, k0_off37 i = ![(8 * (i 0).val + 1) % 16] := by decide +kernel
theorem off38_eq : ∀ i : grid0.Coords, k0_cond11 i = 1#1 → k0_off38 i = ![0, 8 * (i 0).val + 1 - 16, 0] := by decide +kernel
theorem off39_eq : ∀ i : grid0.Coords, k0_off39 i = ![(8 * (i 0).val + 1) % 16, 0, 0] := by decide +kernel
theorem cond12_eq : ∀ i : grid0.Coords, (k0_cond12 i = 1#1 ↔ 16 ≤ 8 * (i 0).val + 2) := by decide +kernel
theorem off40_eq : ∀ i : grid0.Coords, k0_off40 i = ![(8 * (i 0).val + 2) % 16] := by decide +kernel
theorem off41_eq : ∀ i : grid0.Coords, k0_cond12 i = 1#1 → k0_off41 i = ![0, 8 * (i 0).val + 2 - 16, 0] := by decide +kernel
theorem off42_eq : ∀ i : grid0.Coords, k0_off42 i = ![(8 * (i 0).val + 2) % 16, 0, 0] := by decide +kernel
theorem cond13_eq : ∀ i : grid0.Coords, (k0_cond13 i = 1#1 ↔ 16 ≤ 8 * (i 0).val + 3) := by decide +kernel
theorem off43_eq : ∀ i : grid0.Coords, k0_off43 i = ![(8 * (i 0).val + 3) % 16] := by decide +kernel
theorem off44_eq : ∀ i : grid0.Coords, k0_cond13 i = 1#1 → k0_off44 i = ![0, 8 * (i 0).val + 3 - 16, 0] := by decide +kernel
theorem off45_eq : ∀ i : grid0.Coords, k0_off45 i = ![(8 * (i 0).val + 3) % 16, 0, 0] := by decide +kernel
theorem cond14_eq : ∀ i : grid0.Coords, (k0_cond14 i = 1#1 ↔ 16 ≤ 8 * (i 0).val + 4) := by decide +kernel
theorem off46_eq : ∀ i : grid0.Coords, k0_off46 i = ![(8 * (i 0).val + 4) % 16] := by decide +kernel
theorem off47_eq : ∀ i : grid0.Coords, k0_cond14 i = 1#1 → k0_off47 i = ![0, 8 * (i 0).val + 4 - 16, 0] := by decide +kernel
theorem off48_eq : ∀ i : grid0.Coords, k0_off48 i = ![(8 * (i 0).val + 4) % 16, 0, 0] := by decide +kernel
theorem cond15_eq : ∀ i : grid0.Coords, (k0_cond15 i = 1#1 ↔ 16 ≤ 8 * (i 0).val + 5) := by decide +kernel
theorem off49_eq : ∀ i : grid0.Coords, k0_off49 i = ![(8 * (i 0).val + 5) % 16] := by decide +kernel
theorem off50_eq : ∀ i : grid0.Coords, k0_cond15 i = 1#1 → k0_off50 i = ![0, 8 * (i 0).val + 5 - 16, 0] := by decide +kernel
theorem off51_eq : ∀ i : grid0.Coords, k0_off51 i = ![(8 * (i 0).val + 5) % 16, 0, 0] := by decide +kernel
theorem cond16_eq : ∀ i : grid0.Coords, (k0_cond16 i = 1#1 ↔ 16 ≤ 8 * (i 0).val + 6) := by decide +kernel
theorem off52_eq : ∀ i : grid0.Coords, k0_off52 i = ![(8 * (i 0).val + 6) % 16] := by decide +kernel
theorem off53_eq : ∀ i : grid0.Coords, k0_cond16 i = 1#1 → k0_off53 i = ![0, 8 * (i 0).val + 6 - 16, 0] := by decide +kernel
theorem off54_eq : ∀ i : grid0.Coords, k0_off54 i = ![(8 * (i 0).val + 6) % 16, 0, 0] := by decide +kernel
theorem cond17_eq : ∀ i : grid0.Coords, (k0_cond17 i = 1#1 ↔ 16 ≤ 8 * (i 0).val + 7) := by decide +kernel
theorem off55_eq : ∀ i : grid0.Coords, k0_off55 i = ![(8 * (i 0).val + 7) % 16] := by decide +kernel
theorem off56_eq : ∀ i : grid0.Coords, k0_cond17 i = 1#1 → k0_off56 i = ![0, 8 * (i 0).val + 7 - 16, 0] := by decide +kernel
theorem off57_eq : ∀ i : grid0.Coords, k0_off57 i = ![(8 * (i 0).val + 7) % 16, 0, 0] := by decide +kernel

/-! ## Row `8 i + j` itself -/

theorem off28_eq : ∀ (i : grid0.Coords) (j : Fin 8), k0_off28 i (BitVec.ofNat 32 j.val) = ![(8 * (i 0).val + j.val) % 24] := by decide +kernel
theorem off29_eq : ∀ (i : grid0.Coords) (j : Fin 8), k0_off29 i (BitVec.ofNat 32 j.val) = ![(8 * (i 0).val + j.val) % 24, 0, 0] := by decide +kernel
theorem off30_eq : ∀ (i : grid0.Coords) (j : Fin 8), k0_off30 i (BitVec.ofNat 32 j.val) = ![0, 8 * (i 0).val + j.val, 0] := by decide +kernel
theorem off31_eq : ∀ (i : grid0.Coords) (j : Fin 8), k0_off31 i (BitVec.ofNat 32 j.val) = ![(8 * (i 0).val + j.val) % 24, 0, 0] := by decide +kernel
theorem off32_eq : ∀ (i : grid0.Coords) (j : Fin 8), k0_off32 i (BitVec.ofNat 32 j.val) = ![j.val, 0] := by decide +kernel
theorem off33_eq : ∀ (i : grid0.Coords) (j : Fin 8), k0_off33 i (BitVec.ofNat 32 j.val) = ![(8 * (i 0).val + j.val) % 16, 0, 0] := by decide +kernel
theorem off34_eq : ∀ (i : grid0.Coords) (j : Fin 8), k0_off34 i (BitVec.ofNat 32 j.val) = ![(8 * (i 0).val + j.val) % 16] := by decide +kernel
theorem off35_eq : ∀ (i : grid0.Coords) (j : Fin 8), k0_off35 i (BitVec.ofNat 32 j.val) = ![0, 8 * (i 0).val + j.val, 0] := by decide +kernel
theorem off36_eq : ∀ (i : grid0.Coords) (j : Fin 8), k0_off36 i (BitVec.ofNat 32 j.val) = ![(8 * (i 0).val + j.val) % 16, 0, 0] := by decide +kernel

end Cert.KernelIdeal.Hand
-- ==== Proof.Body.lean ====
/-
  One grid step, part by part: the eight rows of the step.
-/
module

public import proofs.«01_k».proof.Proof.State
public import proofs.«01_k».proof.Proof.Offsets
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A program's weakest precondition at the body's thread. -/
abbrev Wp (c : Dev nD) (defs : Defs nD τ sig (Elt F) Λ₀) (𝒱 : Variants) {α : Type} (p : Prog (TpuEff nD τ sig (Elt F) Λ₀ .tc) α) (Q : α → sProp 𝕄) : sProp 𝕄 :=
  wp frame (wpE defs 𝒱 (c : Thread nD τ) none) Set.univ p Q

/-- Rows whose copy in has been started once a step has started its eight ahead. -/
def ahead (i : grid0.Coords) : ℕ := min (8 * (i 0).val + 24) 200

theorem inb_ty (j : Fin 8) : ∀ a, (![j.val, 0] : Fin 2 → ℕ) a + S1x4096.size a ≤ S8x4096.size a := by
  intro a; have := j.isLt; fin_cases a <;> simp <;> omega
theorem inb_rh (j : Fin 8) : ∀ a, (![j.val, 0, 0] : Fin 3 → ℕ) a + S1x59x128.size a ≤ S8x59x128.size a := by
  intro a; have := j.isLt; fin_cases a <;> simp <;> omega

/-- Row `j` of a step's block of types. -/
def tyBlk (X1 : S8x4096.Idx → Elt F .i32) (j : Fin 8) : Vec F S1x4096 .i32 :=
  fun x => X1 ((Rect.unit (s := S8x4096) ![j.val, 0] S1x4096.size (inb_ty j)).toLoadRect.idx x)
/-- Row `j` of a step's block of right factors. -/
def rhBlk (X2 : S8x59x128.Idx → Elt F .f32) (j : Fin 8) : Vec F S1x59x128 .f32 :=
  fun x => X2 ((Rect.unit (s := S8x59x128) ![j.val, 0, 0] S1x59x128.size (inb_rh j)).toLoadRect.idx x)

/-- What the body holds besides the rings: its two windows, and `Z₀`. -/
def ZW (c : Dev nD) (arg1 : Memref sig .tc .vmem S8x4096 .i32) (arg2 : Memref sig .tc .vmem S8x59x128 .f32)
    (X1 : S8x4096.Idx → Elt F .i32) (X2 : S8x59x128.Idx → Elt F .f32) (Z₀ : sProp 𝕄) : sProp 𝕄 :=
  iprop(owns (c : Thread nD τ) arg1 fullShare X1 ∗ owns (c : Thread nD τ) arg2 fullShare X2 ∗ Z₀)

variable (c : Dev nD)
variable (PX : Buf (Elt F) ((c : Thread nD τ).loc main_v0)) (G : Buf (Elt F) ((c : Thread nD τ).loc main_v11))

/-- The states a row `n` goes through: not begun; its output slot free; its block landed; its block read; its result
stored. -/
abbrev U0 (Z : sProp 𝕄) (n H : ℕ) : sProp 𝕄 := T c PX G Z n H (n - 16) n n
abbrev U1 (Z : sProp 𝕄) (n H : ℕ) : sProp 𝕄 := T c PX G Z n H (n + 1 - 16) n n
abbrev UI (Z : sProp 𝕄) (n H : ℕ) : sProp 𝕄 := TI c PX G Z n H (n + 1 - 16) n n
abbrev U2 (Z : sProp 𝕄) (n H : ℕ) : sProp 𝕄 := T c PX G Z (n + 1) H (n + 1 - 16) n n
abbrev UO (Z : sProp 𝕄) (n H : ℕ) : sProp 𝕄 := TO c PX G Z (n + 1) H (n + 1 - 16) n n

variable {c PX G}
variable {defs : Defs nD τ sig (Elt F) Λ₀} {𝒱 : Variants}
variable {X1 : S8x4096.Idx → Elt F .i32} {X2 : S8x59x128.Idx → Elt F .f32}

theorem T_load_ty {Z₀ : sProp 𝕄} {β : Type} {arg1 : Memref sig .tc .vmem S8x4096 .i32} {arg2 : Memref sig .tc .vmem S8x59x128 .f32} {ilo ihi olo ohi ost : ℕ}
    (j : Fin 8) {o : Fin 2 → ℕ} (e : o = ![j.val, 0]) {h1 hl} {k : Vec F S1x4096 .i32 → Prog (TpuEff nD τ sig (Elt F) Λ₀ .tc) β} {Q : β → sProp 𝕄}
    (h : T c PX G (ZW c arg1 arg2 X1 X2 Z₀) ilo ihi olo ohi ost ⊢ Wp c defs 𝒱 (k (tyBlk X1 j)) Q) :
    T c PX G (ZW c arg1 arg2 X1 X2 Z₀) ilo ihi olo ohi ost ⊢ Wp c defs 𝒱
      (Prog.lift (.load arg1 (Rect.unit (s := S8x4096) o S1x4096.size h1).toLoadRect hl) >>= k) Q := by
  subst e
  refine T_load (Z₀ := iprop(owns (c : Thread nD τ) arg2 fullShare X2 ∗ Z₀)) (X := X1) ?_ ?_ h
  · exact BIBase.Entails.refl
  · exact BIBase.Entails.refl

theorem T_load_rh {Z₀ : sProp 𝕄} {β : Type} {arg1 : Memref sig .tc .vmem S8x4096 .i32} {arg2 : Memref sig .tc .vmem S8x59x128 .f32} {ilo ihi olo ohi ost : ℕ}
    (j : Fin 8) {o : Fin 3 → ℕ} (e : o = ![j.val, 0, 0]) {h1 hl} {k : Vec F S1x59x128 .f32 → Prog (TpuEff nD τ sig (Elt F) Λ₀ .tc) β} {Q : β → sProp 𝕄}
    (h : T c PX G (ZW c arg1 arg2 X1 X2 Z₀) ilo ihi olo ohi ost ⊢ Wp c defs 𝒱 (k (rhBlk X2 j)) Q) :
    T c PX G (ZW c arg1 arg2 X1 X2 Z₀) ilo ihi olo ohi ost ⊢ Wp c defs 𝒱
      (Prog.lift (.load arg2 (Rect.unit (s := S8x59x128) o S1x59x128.size h1).toLoadRect hl) >>= k) Q := by
  subst e
  refine T_load (Z₀ := iprop(owns (c : Thread nD τ) arg1 fullShare X1 ∗ Z₀)) (X := X2) ?_ ?_ h
  · unfold ZW
    iintro ⟨H1, H2, H⟩
    isplitl [H2]; · iexact H2
    isplitl [H1]; · iexact H1
    iexact H
  · unfold ZW
    iintro ⟨H2, H1, H⟩
    isplitl [H1]; · iexact H1
    isplitl [H2]; · iexact H2
    iexact H

variable {i : grid0.Coords} {arg1 : Memref sig .tc .vmem S8x4096 .i32} {harg1 : arg1.IsWhole} {arg2 : Memref sig .tc .vmem S8x59x128 .f32} {harg2 : arg2.IsWhole} {h3 h4 h5 h6}

set_option maxHeartbeats 1000000 in
/-- The last three copies ahead and the wait for the slot of the step's first row. -/
theorem part8_run {Z₀ : sProp 𝕄} {v0 : BitVec 32} {c5_i32 : BitVec 32} {Q : (Σ' (v44 : BitVec 32) (v54 : BitVec 32) (v59 : BitVec 32) (v60 : BitVec 32), BitVec 32) → sProp 𝕄}
    (h : ∀ x, U1 c PX G (ZW c arg1 arg2 X1 X2 Z₀) (8 * (i 0).val + 0) (ahead i) ⊢ Q x) :
    T c PX G (ZW c arg1 arg2 X1 X2 Z₀) (8 * (i 0).val) (min (8 * (i 0).val + 21) 200) (8 * (i 0).val - 16) (8 * (i 0).val) (8 * (i 0).val) ⊢
      Wp c defs 𝒱 (k0_part8 (F := F) i arg1 harg1 arg2 harg2 (.whole main_v0) h3 (.whole main_v11) h4 (.whole cc0_scratch0) h5 (.whole cc0_scratch1) h6 cc0_scratch2 cc0_scratch3 v0 c5_i32) Q := by
  have hs : (i 0).val < 25 := (i 0).isLt
  rw [k0_part8_eq_skeleton]
  unfold k0_part8_skel
  refine T_ahead (8 * (i 0).val + 21) (by omega) (by omega) (by omega) (cond7_eq i) (off16_eq i) (off17_eq i) (off18_eq i) ?_
  refine T_ahead (8 * (i 0).val + 22) (by omega) (by omega) (by omega) (cond8_eq i) (off19_eq i) (off20_eq i) (off21_eq i) ?_
  refine T_ahead (8 * (i 0).val + 23) (by omega) (by omega) (by omega) (cond9_eq i) (off22_eq i) (off23_eq i) (off24_eq i) ?_
  refine T_before (8 * (i 0).val + 0) (by omega) (cond10_eq i) (off25_eq i) (off26_eq i) ?_
  exact pure_step (h _)

/-- Row 0 of the step: its block is waited for and read. -/
theorem part9_run {Z₀ : sProp 𝕄} {v44 : BitVec 32} {v59 : BitVec 32} {v60 : BitVec 32} {c0_i32_35 : BitVec 32} {Q : (FVec F S45x4096 .f32) → sProp 𝕄}
    (h : U2 c PX G (ZW c arg1 arg2 X1 X2 Z₀) (8 * (i 0).val + 0) (ahead i) ⊢ Q (k0_pay1 (pxBlk c PX (rowNo (8 * (i 0).val + 0))))) :
    U1 c PX G (ZW c arg1 arg2 X1 X2 Z₀) (8 * (i 0).val + 0) (ahead i) ⊢
      Wp c defs 𝒱 (k0_part9 (F := F) i arg1 harg1 arg2 harg2 (.whole main_v0) h3 (.whole main_v11) h4 (.whole cc0_scratch0) h5 (.whole cc0_scratch1) h6 cc0_scratch2 cc0_scratch3 v44 v59 v60 c0_i32_35) Q := by
  have hs : (i 0).val < 25 := (i 0).isLt
  rw [k0_part9_eq_skeleton]
  unfold k0_part9_skel
  refine T_wait_in (by unfold ahead; omega) (off28_eq i 0) (off29_eq i 0) ?_
  refine T_load_in (by unfold ahead; omega) (off31_eq i 0) ?_
  exact pure_step h

/-- Row 0 of the step: its result is stored in its slot. -/
theorem part10_run {Z₀ : sProp 𝕄} {v44 : BitVec 32} {v54 : BitVec 32} {v98 : FVec F S45x4096 .f32} {Q : (Σ' (v133 : BitVec 32) (v134 : BitVec 32) (v135 : BitVec 1), BitVec 32) → sProp 𝕄} (hw : ∀ x, k0_pay2 v98 (tyBlk X1 0) (rhBlk X2 0) (Shape.reshapeEquiv squeezes_S1x4096x128_S4096x128.numel_eq x) = gRd c G (rowNo (8 * (i 0).val + 0)) x)
    (h : ∀ x, UO c PX G (ZW c arg1 arg2 X1 X2 Z₀) (8 * (i 0).val + 0) (ahead i) ⊢ Q x) :
    U2 c PX G (ZW c arg1 arg2 X1 X2 Z₀) (8 * (i 0).val + 0) (ahead i) ⊢
      Wp c defs 𝒱 (k0_part10 (F := F) i arg1 harg1 arg2 harg2 (.whole main_v0) h3 (.whole main_v11) h4 (.whole cc0_scratch0) h5 (.whole cc0_scratch1) h6 cc0_scratch2 cc0_scratch3 v44 v54 v98) Q := by
  have hs : (i 0).val < 25 := (i 0).isLt
  rw [k0_part10_eq_skeleton]
  unfold k0_part10_skel
  refine T_load_ty 0 (off32_eq i 0) ?_
  refine T_load_rh 0 rfl ?_
  refine T_load_sc (by omega) (by omega) (off33_eq i 0) fun _ => ?_
  refine T_store_sc (by omega) (by omega) (off33_eq i 0) hw ?_
  exact pure_step (h _)

/-- Row 0's copy out is started; row 1's slot is waited for. -/
theorem part11_run {Z₀ : sProp 𝕄} {v0 : BitVec 32} {v44 : BitVec 32} {v133 : BitVec 32} {v134 : BitVec 32} {v135 : BitVec 1} {c0_i32_75 : BitVec 32} {Q : (Σ' (v158 : BitVec 32) (v168 : BitVec 32) (c24_i32_96 : BitVec 32), BitVec 32) → sProp 𝕄}
    (h : ∀ x, U1 c PX G (ZW c arg1 arg2 X1 X2 Z₀) (8 * (i 0).val + 1) (ahead i) ⊢ Q x) :
    UO c PX G (ZW c arg1 arg2 X1 X2 Z₀) (8 * (i 0).val + 0) (ahead i) ⊢
      Wp c defs 𝒱 (k0_part11 (F := F) i arg1 harg1 arg2 harg2 (.whole main_v0) h3 (.whole main_v11) h4 (.whole cc0_scratch0) h5 (.whole cc0_scratch1) h6 cc0_scratch2 cc0_scratch3 v0 v44 v133 v134 v135 c0_i32_75) Q := by
  have hs : (i 0).val < 25 := (i 0).isLt
  rw [k0_part11_eq_skeleton]
  unfold k0_part11_skel
  refine T_start_out (by omega) (by omega) (by omega) (off34_eq i 0) (off36_eq i 0) (off35_eq i 0) ?_
  refine T_before (8 * (i 0).val + 1) (by omega) (cond11_eq i) (off37_eq i) (off38_eq i) ?_
  exact pure_step (h _)

/-- Row 1's block is waited for. -/
theorem part12_run {Z₀ : sProp 𝕄} {v158 : BitVec 32} {c24_i32_96 : BitVec 32} {c0_i32_97 : BitVec 32} {Q : (PUnit) → sProp 𝕄}
    (h : UI c PX G (ZW c arg1 arg2 X1 X2 Z₀) (8 * (i 0).val + 1) (ahead i) ⊢ Q ⟨⟩) :
    U1 c PX G (ZW c arg1 arg2 X1 X2 Z₀) (8 * (i 0).val + 1) (ahead i) ⊢
      Wp c defs 𝒱 (k0_part12 (F := F) i arg1 harg1 arg2 harg2 (.whole main_v0) h3 (.whole main_v11) h4 (.whole cc0_scratch0) h5 (.whole cc0_scratch1) h6 cc0_scratch2 cc0_scratch3 v158 c24_i32_96 c0_i32_97) Q := by
  have hs : (i 0).val < 25 := (i 0).isLt
  rw [k0_part12_eq_skeleton]
  unfold k0_part12_skel
  refine T_wait_in (by unfold ahead; omega) (off28_eq i 1) (off29_eq i 1) ?_
  exact pure_step h

/-- Row 1's result is computed and stored. -/
theorem part13_run {Z₀ : sProp 𝕄} {v158 : BitVec 32} {v168 : BitVec 32} {Q : (Σ' (c16_i32_137 : BitVec 32) (v246 : BitVec 1), BitVec 32) → sProp 𝕄} (hw : ∀ x, k0_pay3 (pxBlk c PX (rowNo (8 * (i 0).val + 1))) (tyBlk X1 1) (rhBlk X2 1) (Shape.reshapeEquiv squeezes_S1x4096x128_S4096x128.numel_eq x) = gRd c G (rowNo (8 * (i 0).val + 1)) x)
    (h : ∀ x, UO c PX G (ZW c arg1 arg2 X1 X2 Z₀) (8 * (i 0).val + 1) (ahead i) ⊢ Q x) :
    UI c PX G (ZW c arg1 arg2 X1 X2 Z₀) (8 * (i 0).val + 1) (ahead i) ⊢
      Wp c defs 𝒱 (k0_part13 (F := F) i arg1 harg1 arg2 harg2 (.whole main_v0) h3 (.whole main_v11) h4 (.whole cc0_scratch0) h5 (.whole cc0_scratch1) h6 cc0_scratch2 cc0_scratch3 v158 v168) Q := by
  have hs : (i 0).val < 25 := (i 0).isLt
  rw [k0_part13_eq_skeleton]
  unfold k0_part13_skel
  refine T_load_in (by unfold ahead; omega) (off31_eq i 1) ?_
  refine T_load_ty 1 (off32_eq i 1) ?_
  refine T_load_rh 1 rfl ?_
  refine T_load_sc (by omega) (by omega) (off33_eq i 1) fun _ => ?_
  refine T_store_sc (by omega) (by omega) (off33_eq i 1) hw ?_
  exact pure_step (h _)

/-- Row 1's copy out is started. -/
theorem part14_run {Z₀ : sProp 𝕄} {v0 : BitVec 32} {v158 : BitVec 32} {c16_i32_137 : BitVec 32} {v246 : BitVec 1} {c1_i32_139 : BitVec 32} {Q : (Σ' (v272 : BitVec 32) (v282 : BitVec 32), BitVec 32) → sProp 𝕄}
    (h : ∀ x, U0 c PX G (ZW c arg1 arg2 X1 X2 Z₀) (8 * (i 0).val + 2) (ahead i) ⊢ Q x) :
    UO c PX G (ZW c arg1 arg2 X1 X2 Z₀) (8 * (i 0).val + 1) (ahead i) ⊢
      Wp c defs 𝒱 (k0_part14 (F := F) i arg1 harg1 arg2 harg2 (.whole main_v0) h3 (.whole main_v11) h4 (.whole cc0_scratch0) h5 (.whole cc0_scratch1) h6 cc0_scratch2 cc0_scratch3 v0 v158 c16_i32_137 v246 c1_i32_139) Q := by
  have hs : (i 0).val < 25 := (i 0).isLt
  rw [k0_part14_eq_skeleton]
  unfold k0_part14_skel
  refine T_start_out (by omega) (by omega) (by omega) (off34_eq i 1) (off36_eq i 1) (off35_eq i 1) ?_
  exact pure_step (h _)

/-- Row 2's slot and block are waited for. -/
theorem part15_run {Z₀ : sProp 𝕄} {v272 : BitVec 32} {v284 : BitVec 32} {Q : (Σ' (v313 : BitVec 32) (v314 : BitVec 32), BitVec 1) → sProp 𝕄}
    (h : ∀ x, UI c PX G (ZW c arg1 arg2 X1 X2 Z₀) (8 * (i 0).val + 2) (ahead i) ⊢ Q x) :
    U0 c PX G (ZW c arg1 arg2 X1 X2 Z₀) (8 * (i 0).val + 2) (ahead i) ⊢
      Wp c defs 𝒱 (k0_part15 (F := F) i arg1 harg1 arg2 harg2 (.whole main_v0) h3 (.whole main_v11) h4 (.whole cc0_scratch0) h5 (.whole cc0_scratch1) h6 cc0_scratch2 cc0_scratch3 v272 v284) Q := by
  have hs : (i 0).val < 25 := (i 0).isLt
  rw [k0_part15_eq_skeleton]
  unfold k0_part15_skel
  refine T_before (8 * (i 0).val + 2) (by omega) (cond12_eq i) (off40_eq i) (off41_eq i) ?_
  refine T_wait_in (by unfold ahead; omega) (off28_eq i 2) (off29_eq i 2) ?_
  exact pure_step (h _)

/-- Row 2's result is computed. -/
theorem part16_run {Z₀ : sProp 𝕄} {v272 : BitVec 32} {v282 : BitVec 32} {v313 : BitVec 32} {v314 : BitVec 32} {v319 : BitVec 1} {Q : (FVec F S1x4096x128 .f32) → sProp 𝕄}
    (h : U2 c PX G (ZW c arg1 arg2 X1 X2 Z₀) (8 * (i 0).val + 2) (ahead i) ⊢ Q (k0_pay4 (pxBlk c PX (rowNo (8 * (i 0).val + 2))) (tyBlk X1 2) (rhBlk X2 2))) :
    UI c PX G (ZW c arg1 arg2 X1 X2 Z₀) (8 * (i 0).val + 2) (ahead i) ⊢
      Wp c defs 𝒱 (k0_part16 (F := F) i arg1 harg1 arg2 harg2 (.whole main_v0) h3 (.whole main_v11) h4 (.whole cc0_scratch0) h5 (.whole cc0_scratch1) h6 cc0_scratch2 cc0_scratch3 v272 v282 v313 v314 v319) Q := by
  have hs : (i 0).val < 25 := (i 0).isLt
  rw [k0_part16_eq_skeleton]
  unfold k0_part16_skel
  refine T_load_in (by unfold ahead; omega) (off31_eq i 2) ?_
  refine T_load_ty 2 (off32_eq i 2) ?_
  refine T_load_rh 2 rfl ?_
  refine T_load_sc (by omega) (by omega) (off33_eq i 2) fun _ => ?_
  exact pure_step h

/-- Row 2's result is stored and its copy out started. -/
theorem part17_run {Z₀ : sProp 𝕄} {v0 : BitVec 32} {v272 : BitVec 32} {v359 : FVec F S1x4096x128 .f32} {Q : (Σ' (v386 : BitVec 32) (v388 : BitVec 32) (v389 : BitVec 32), BitVec 1) → sProp 𝕄} (hw : ∀ x, v359 (Shape.reshapeEquiv squeezes_S1x4096x128_S4096x128.numel_eq x) = gRd c G (rowNo (8 * (i 0).val + 2)) x)
    (h : ∀ x, U0 c PX G (ZW c arg1 arg2 X1 X2 Z₀) (8 * (i 0).val + 3) (ahead i) ⊢ Q x) :
    U2 c PX G (ZW c arg1 arg2 X1 X2 Z₀) (8 * (i 0).val + 2) (ahead i) ⊢
      Wp c defs 𝒱 (k0_part17 (F := F) i arg1 harg1 arg2 harg2 (.whole main_v0) h3 (.whole main_v11) h4 (.whole cc0_scratch0) h5 (.whole cc0_scratch1) h6 cc0_scratch2 cc0_scratch3 v0 v272 v359) Q := by
  have hs : (i 0).val < 25 := (i 0).isLt
  rw [k0_part17_eq_skeleton]
  unfold k0_part17_skel
  refine T_store_sc (by omega) (by omega) (off33_eq i 2) hw ?_
  refine T_start_out (by omega) (by omega) (by omega) (off34_eq i 2) (off36_eq i 2) (off35_eq i 2) ?_
  exact pure_step (h _)

/-- Row 3's slot and block are waited for. -/
theorem part18_run {Z₀ : sProp 𝕄} {v386 : BitVec 32} {v388 : BitVec 32} {v389 : BitVec 32} {v394 : BitVec 1} {Q : (Σ' (v396 : BitVec 32) (v427 : BitVec 32) (v428 : BitVec 32) (v429 : BitVec 1), BitVec 32) → sProp 𝕄}
    (h : ∀ x, UI c PX G (ZW c arg1 arg2 X1 X2 Z₀) (8 * (i 0).val + 3) (ahead i) ⊢ Q x) :
    U0 c PX G (ZW c arg1 arg2 X1 X2 Z₀) (8 * (i 0).val + 3) (ahead i) ⊢
      Wp c defs 𝒱 (k0_part18 (F := F) i arg1 harg1 arg2 harg2 (.whole main_v0) h3 (.whole main_v11) h4 (.whole cc0_scratch0) h5 (.whole cc0_scratch1) h6 cc0_scratch2 cc0_scratch3 v386 v388 v389 v394) Q := by
  have hs : (i 0).val < 25 := (i 0).isLt
  rw [k0_part18_eq_skeleton]
  unfold k0_part18_skel
  refine T_before (8 * (i 0).val + 3) (by omega) (cond13_eq i) (off43_eq i) (off44_eq i) ?_
  refine T_wait_in (by unfold ahead; omega) (off28_eq i 3) (off29_eq i 3) ?_
  exact pure_step (h _)

/-- Row 3's result is computed. -/
theorem part19_run {Z₀ : sProp 𝕄} {v386 : BitVec 32} {v396 : BitVec 32} {v427 : BitVec 32} {v428 : BitVec 32} {v429 : BitVec 1} {c0_i32_248 : BitVec 32} {Q : (FVec F S4096x128 .f32) → sProp 𝕄}
    (h : U2 c PX G (ZW c arg1 arg2 X1 X2 Z₀) (8 * (i 0).val + 3) (ahead i) ⊢ Q (k0_pay5 (pxBlk c PX (rowNo (8 * (i 0).val + 3))) (tyBlk X1 3) (rhBlk X2 3))) :
    UI c PX G (ZW c arg1 arg2 X1 X2 Z₀) (8 * (i 0).val + 3) (ahead i) ⊢
      Wp c defs 𝒱 (k0_part19 (F := F) i arg1 harg1 arg2 harg2 (.whole main_v0) h3 (.whole main_v11) h4 (.whole cc0_scratch0) h5 (.whole cc0_scratch1) h6 cc0_scratch2 cc0_scratch3 v386 v396 v427 v428 v429 c0_i32_248) Q := by
  have hs : (i 0).val < 25 := (i 0).isLt
  rw [k0_part19_eq_skeleton]
  unfold k0_part19_skel
  refine T_load_in (by unfold ahead; omega) (off31_eq i 3) ?_
  refine T_load_ty 3 (off32_eq i 3) ?_
  refine T_load_rh 3 rfl ?_
  exact pure_step h

/-- Row 3's result is stored and its copy out started. -/
theorem part20_run {Z₀ : sProp 𝕄} {v0 : BitVec 32} {v386 : BitVec 32} {v459 : FVec F S4096x128 .f32} {Q : (Σ' (v500 : BitVec 32) (v502 : BitVec 32) (v503 : BitVec 32) (v504 : BitVec 1), BitVec 32) → sProp 𝕄} (hw : ∀ x, k0_pay6 v459 (Shape.reshapeEquiv squeezes_S1x4096x128_S4096x128.numel_eq x) = gRd c G (rowNo (8 * (i 0).val + 3)) x)
    (h : ∀ x, U0 c PX G (ZW c arg1 arg2 X1 X2 Z₀) (8 * (i 0).val + 4) (ahead i) ⊢ Q x) :
    U2 c PX G (ZW c arg1 arg2 X1 X2 Z₀) (8 * (i 0).val + 3) (ahead i) ⊢
      Wp c defs 𝒱 (k0_part20 (F := F) i arg1 harg1 arg2 harg2 (.whole main_v0) h3 (.whole main_v11) h4 (.whole cc0_scratch0) h5 (.whole cc0_scratch1) h6 cc0_scratch2 cc0_scratch3 v0 v386 v459) Q := by
  have hs : (i 0).val < 25 := (i 0).isLt
  rw [k0_part20_eq_skeleton]
  unfold k0_part20_skel
  refine T_load_sc (by omega) (by omega) (off33_eq i 3) fun _ => ?_
  refine T_store_sc (by omega) (by omega) (off33_eq i 3) hw ?_
  refine T_start_out (by omega) (by omega) (by omega) (off34_eq i 3) (off36_eq i 3) (off35_eq i 3) ?_
  exact pure_step (h _)

/-- Row 4's slot and block are waited for. -/
theorem part21_run {Z₀ : sProp 𝕄} {v500 : BitVec 32} {v502 : BitVec 32} {v503 : BitVec 32} {v504 : BitVec 1} {c0_i32_290 : BitVec 32} {Q : (Σ' (v510 : BitVec 32) (c24_i32_310 : BitVec 32) (v540 : BitVec 1), BitVec 32) → sProp 𝕄}
    (h : ∀ x, UI c PX G (ZW c arg1 arg2 X1 X2 Z₀) (8 * (i 0).val + 4) (ahead i) ⊢ Q x) :
    U0 c PX G (ZW c arg1 arg2 X1 X2 Z₀) (8 * (i 0).val + 4) (ahead i) ⊢
      Wp c defs 𝒱 (k0_part21 (F := F) i arg1 harg1 arg2 harg2 (.whole main_v0) h3 (.whole main_v11) h4 (.whole cc0_scratch0) h5 (.whole cc0_scratch1) h6 cc0_scratch2 cc0_scratch3 v500 v502 v503 v504 c0_i32_290) Q := by
  have hs : (i 0).val < 25 := (i 0).isLt
  rw [k0_part21_eq_skeleton]
  unfold k0_part21_skel
  refine T_before (8 * (i 0).val + 4) (by omega) (cond14_eq i) (off46_eq i) (off47_eq i) ?_
  refine T_wait_in (by unfold ahead; omega) (off28_eq i 4) (off29_eq i 4) ?_
  exact pure_step (h _)

/-- Row 4's result is computed. -/
theorem part22_run {Z₀ : sProp 𝕄} {v500 : BitVec 32} {v510 : BitVec 32} {c24_i32_310 : BitVec 32} {v540 : BitVec 1} {c1_i32_312 : BitVec 32} {Q : (Σ' (v573 : FVec F S4096x128 .f32) (v575 : BitVec 32) (v576 : BitVec 32) (v577 : BitVec 1) (v578 : BitVec 1), BitVec 1) → sProp 𝕄}
    (h : ∀ x, x.1 = k0_pay7 (pxBlk c PX (rowNo (8 * (i 0).val + 4))) (tyBlk X1 4) (rhBlk X2 4) → (U2 c PX G (ZW c arg1 arg2 X1 X2 Z₀) (8 * (i 0).val + 4) (ahead i) ⊢ Q x)) :
    UI c PX G (ZW c arg1 arg2 X1 X2 Z₀) (8 * (i 0).val + 4) (ahead i) ⊢
      Wp c defs 𝒱 (k0_part22 (F := F) i arg1 harg1 arg2 harg2 (.whole main_v0) h3 (.whole main_v11) h4 (.whole cc0_scratch0) h5 (.whole cc0_scratch1) h6 cc0_scratch2 cc0_scratch3 v500 v510 c24_i32_310 v540 c1_i32_312) Q := by
  have hs : (i 0).val < 25 := (i 0).isLt
  rw [k0_part22_eq_skeleton]
  unfold k0_part22_skel
  refine T_load_in (by unfold ahead; omega) (off31_eq i 4) ?_
  refine T_load_ty 4 (off32_eq i 4) ?_
  refine T_load_rh 4 rfl ?_
  exact pure_step (h _ rfl)

/-- Row 4's result is stored and its copy out started. -/
theorem part23_run {Z₀ : sProp 𝕄} {v0 : BitVec 32} {v500 : BitVec 32} {v573 : FVec F S4096x128 .f32} {v575 : BitVec 32} {v576 : BitVec 32} {v577 : BitVec 1} {v578 : BitVec 1} {v579 : BitVec 1} {Q : (Σ' (v614 : BitVec 32) (c8_i32_352 : BitVec 32) (v615 : BitVec 1), BitVec 32) → sProp 𝕄} (hw : ∀ x, k0_pay8 v573 (Shape.reshapeEquiv squeezes_S1x4096x128_S4096x128.numel_eq x) = gRd c G (rowNo (8 * (i 0).val + 4)) x)
    (h : ∀ x, U0 c PX G (ZW c arg1 arg2 X1 X2 Z₀) (8 * (i 0).val + 5) (ahead i) ⊢ Q x) :
    U2 c PX G (ZW c arg1 arg2 X1 X2 Z₀) (8 * (i 0).val + 4) (ahead i) ⊢
      Wp c defs 𝒱 (k0_part23 (F := F) i arg1 harg1 arg2 harg2 (.whole main_v0) h3 (.whole main_v11) h4 (.whole cc0_scratch0) h5 (.whole cc0_scratch1) h6 cc0_scratch2 cc0_scratch3 v0 v500 v573 v575 v576 v577 v578 v579) Q := by
  have hs : (i 0).val < 25 := (i 0).isLt
  rw [k0_part23_eq_skeleton]
  unfold k0_part23_skel
  refine T_load_sc (by omega) (by omega) (off33_eq i 4) fun _ => ?_
  refine T_store_sc (by omega) (by omega) (off33_eq i 4) hw ?_
  refine T_start_out (by omega) (by omega) (by omega) (off34_eq i 4) (off36_eq i 4) (off35_eq i 4) ?_
  exact pure_step (h _)

/-- Row 5's slot is waited for. -/
theorem part24_run {Z₀ : sProp 𝕄} {v614 : BitVec 32} {c8_i32_352 : BitVec 32} {v615 : BitVec 1} {c1_i32_354 : BitVec 32} {Q : (BitVec 32) → sProp 𝕄}
    (h : ∀ x, U1 c PX G (ZW c arg1 arg2 X1 X2 Z₀) (8 * (i 0).val + 5) (ahead i) ⊢ Q x) :
    U0 c PX G (ZW c arg1 arg2 X1 X2 Z₀) (8 * (i 0).val + 5) (ahead i) ⊢
      Wp c defs 𝒱 (k0_part24 (F := F) i arg1 harg1 arg2 harg2 (.whole main_v0) h3 (.whole main_v11) h4 (.whole cc0_scratch0) h5 (.whole cc0_scratch1) h6 cc0_scratch2 cc0_scratch3 v614 c8_i32_352 v615 c1_i32_354) Q := by
  have hs : (i 0).val < 25 := (i 0).isLt
  rw [k0_part24_eq_skeleton]
  unfold k0_part24_skel
  refine T_before (8 * (i 0).val + 5) (by omega) (cond15_eq i) (off49_eq i) (off50_eq i) ?_
  exact pure_step (h _)

/-- Row 5's block is waited for and its result computed. -/
theorem part25_run {Z₀ : sProp 𝕄} {v614 : BitVec 32} {v624 : BitVec 32} {Q : (Σ' (v687 : FVec F S4096x128 .f32) (v689 : BitVec 32) (v690 : BitVec 32), BitVec 32) → sProp 𝕄}
    (h : ∀ x, x.1 = k0_pay9 (pxBlk c PX (rowNo (8 * (i 0).val + 5))) (tyBlk X1 5) (rhBlk X2 5) → (U2 c PX G (ZW c arg1 arg2 X1 X2 Z₀) (8 * (i 0).val + 5) (ahead i) ⊢ Q x)) :
    U1 c PX G (ZW c arg1 arg2 X1 X2 Z₀) (8 * (i 0).val + 5) (ahead i) ⊢
      Wp c defs 𝒱 (k0_part25 (F := F) i arg1 harg1 arg2 harg2 (.whole main_v0) h3 (.whole main_v11) h4 (.whole cc0_scratch0) h5 (.whole cc0_scratch1) h6 cc0_scratch2 cc0_scratch3 v614 v624) Q := by
  have hs : (i 0).val < 25 := (i 0).isLt
  rw [k0_part25_eq_skeleton]
  unfold k0_part25_skel
  refine T_wait_in (by unfold ahead; omega) (off28_eq i 5) (off29_eq i 5) ?_
  refine T_load_in (by unfold ahead; omega) (off31_eq i 5) ?_
  refine T_load_ty 5 (off32_eq i 5) ?_
  refine T_load_rh 5 rfl ?_
  exact pure_step (h _ rfl)

/-- Row 5's result is stored and its copy out started. -/
theorem part26_run {Z₀ : sProp 𝕄} {v614 : BitVec 32} {v687 : FVec F S4096x128 .f32} {v689 : BitVec 32} {v690 : BitVec 32} {c0_i32_396 : BitVec 32} {Q : (BitVec 32) → sProp 𝕄} (hw : ∀ x, k0_pay10 v687 (Shape.reshapeEquiv squeezes_S1x4096x128_S4096x128.numel_eq x) = gRd c G (rowNo (8 * (i 0).val + 5)) x)
    (h : ∀ x, U0 c PX G (ZW c arg1 arg2 X1 X2 Z₀) (8 * (i 0).val + 6) (ahead i) ⊢ Q x) :
    U2 c PX G (ZW c arg1 arg2 X1 X2 Z₀) (8 * (i 0).val + 5) (ahead i) ⊢
      Wp c defs 𝒱 (k0_part26 (F := F) i arg1 harg1 arg2 harg2 (.whole main_v0) h3 (.whole main_v11) h4 (.whole cc0_scratch0) h5 (.whole cc0_scratch1) h6 cc0_scratch2 cc0_scratch3 v614 v687 v689 v690 c0_i32_396) Q := by
  have hs : (i 0).val < 25 := (i 0).isLt
  rw [k0_part26_eq_skeleton]
  unfold k0_part26_skel
  refine T_load_sc (by omega) (by omega) (off33_eq i 5) fun _ => ?_
  refine T_store_sc (by omega) (by omega) (off33_eq i 5) hw ?_
  refine T_start_out (by omega) (by omega) (by omega) (off34_eq i 5) (off36_eq i 5) (off35_eq i 5) ?_
  exact pure_step (h _)

/-- Row 6's slot is waited for. -/
theorem part27_run {Z₀ : sProp 𝕄} {v0 : BitVec 32} {c6_i32_417 : BitVec 32} {Q : (Σ' (v728 : BitVec 32), BitVec 32) → sProp 𝕄}
    (h : ∀ x, U1 c PX G (ZW c arg1 arg2 X1 X2 Z₀) (8 * (i 0).val + 6) (ahead i) ⊢ Q x) :
    U0 c PX G (ZW c arg1 arg2 X1 X2 Z₀) (8 * (i 0).val + 6) (ahead i) ⊢
      Wp c defs 𝒱 (k0_part27 (F := F) i arg1 harg1 arg2 harg2 (.whole main_v0) h3 (.whole main_v11) h4 (.whole cc0_scratch0) h5 (.whole cc0_scratch1) h6 cc0_scratch2 cc0_scratch3 v0 c6_i32_417) Q := by
  have hs : (i 0).val < 25 := (i 0).isLt
  rw [k0_part27_eq_skeleton]
  unfold k0_part27_skel
  refine T_before (8 * (i 0).val + 6) (by omega) (cond16_eq i) (off52_eq i) (off53_eq i) ?_
  exact pure_step (h _)

/-- Row 6's block is waited for and its result computed. -/
theorem part28_run {Z₀ : sProp 𝕄} {v728 : BitVec 32} {v738 : BitVec 32} {Q : (Σ' (v801 : FVec F S4096x128 .f32) (c16_i32_459 : BitVec 32), BitVec 32) → sProp 𝕄}
    (h : ∀ x, x.1 = k0_pay11 (pxBlk c PX (rowNo (8 * (i 0).val + 6))) (tyBlk X1 6) (rhBlk X2 6) → (U2 c PX G (ZW c arg1 arg2 X1 X2 Z₀) (8 * (i 0).val + 6) (ahead i) ⊢ Q x)) :
    U1 c PX G (ZW c arg1 arg2 X1 X2 Z₀) (8 * (i 0).val + 6) (ahead i) ⊢
      Wp c defs 𝒱 (k0_part28 (F := F) i arg1 harg1 arg2 harg2 (.whole main_v0) h3 (.whole main_v11) h4 (.whole cc0_scratch0) h5 (.whole cc0_scratch1) h6 cc0_scratch2 cc0_scratch3 v728 v738) Q := by
  have hs : (i 0).val < 25 := (i 0).isLt
  rw [k0_part28_eq_skeleton]
  unfold k0_part28_skel
  refine T_wait_in (by unfold ahead; omega) (off28_eq i 6) (off29_eq i 6) ?_
  refine T_load_in (by unfold ahead; omega) (off31_eq i 6) ?_
  refine T_load_ty 6 (off32_eq i 6) ?_
  refine T_load_rh 6 rfl ?_
  exact pure_step (h _ rfl)

/-- Row 6's result is stored. -/
theorem part29_run {Z₀ : sProp 𝕄} {v728 : BitVec 32} {v801 : FVec F S4096x128 .f32} {c16_i32_459 : BitVec 32} {c0_i32_460 : BitVec 32} {Q : (PUnit) → sProp 𝕄} (hw : ∀ x, k0_pay12 v801 (Shape.reshapeEquiv squeezes_S1x4096x128_S4096x128.numel_eq x) = gRd c G (rowNo (8 * (i 0).val + 6)) x)
    (h : UO c PX G (ZW c arg1 arg2 X1 X2 Z₀) (8 * (i 0).val + 6) (ahead i) ⊢ Q ⟨⟩) :
    U2 c PX G (ZW c arg1 arg2 X1 X2 Z₀) (8 * (i 0).val + 6) (ahead i) ⊢
      Wp c defs 𝒱 (k0_part29 (F := F) i arg1 harg1 arg2 harg2 (.whole main_v0) h3 (.whole main_v11) h4 (.whole cc0_scratch0) h5 (.whole cc0_scratch1) h6 cc0_scratch2 cc0_scratch3 v728 v801 c16_i32_459 c0_i32_460) Q := by
  have hs : (i 0).val < 25 := (i 0).isLt
  rw [k0_part29_eq_skeleton]
  unfold k0_part29_skel
  refine T_load_sc (by omega) (by omega) (off33_eq i 6) fun _ => ?_
  refine T_store_sc (by omega) (by omega) (off33_eq i 6) hw ?_
  exact pure_step h

/-- Row 6's copy out is started; row 7's slot is waited for. -/
theorem part30_run {Z₀ : sProp 𝕄} {v0 : BitVec 32} {Q : (Σ' (v842 : BitVec 32), BitVec 32) → sProp 𝕄}
    (h : ∀ x, U1 c PX G (ZW c arg1 arg2 X1 X2 Z₀) (8 * (i 0).val + 7) (ahead i) ⊢ Q x) :
    UO c PX G (ZW c arg1 arg2 X1 X2 Z₀) (8 * (i 0).val + 6) (ahead i) ⊢
      Wp c defs 𝒱 (k0_part30 (F := F) i arg1 harg1 arg2 harg2 (.whole main_v0) h3 (.whole main_v11) h4 (.whole cc0_scratch0) h5 (.whole cc0_scratch1) h6 cc0_scratch2 cc0_scratch3 v0) Q := by
  have hs : (i 0).val < 25 := (i 0).isLt
  rw [k0_part30_eq_skeleton]
  unfold k0_part30_skel
  refine T_start_out (by omega) (by omega) (by omega) (off34_eq i 6) (off36_eq i 6) (off35_eq i 6) ?_
  refine T_before (8 * (i 0).val + 7) (by omega) (cond17_eq i) (off55_eq i) (off56_eq i) ?_
  exact pure_step (h _)

/-- Row 7's block is waited for and its operands computed. -/
theorem part31_run {Z₀ : sProp 𝕄} {v842 : BitVec 32} {v852 : BitVec 32} {Q : (Σ' (v912 : FVec F S59x4096 .f32), Vec F S1x59x128 .f32) → sProp 𝕄}
    (h : U2 c PX G (ZW c arg1 arg2 X1 X2 Z₀) (8 * (i 0).val + 7) (ahead i) ⊢ Q (⟨k0_pay13 (pxBlk c PX (rowNo (8 * (i 0).val + 7))) (tyBlk X1 7), (rhBlk X2 7)⟩)) :
    U1 c PX G (ZW c arg1 arg2 X1 X2 Z₀) (8 * (i 0).val + 7) (ahead i) ⊢
      Wp c defs 𝒱 (k0_part31 (F := F) i arg1 harg1 arg2 harg2 (.whole main_v0) h3 (.whole main_v11) h4 (.whole cc0_scratch0) h5 (.whole cc0_scratch1) h6 cc0_scratch2 cc0_scratch3 v842 v852) Q := by
  have hs : (i 0).val < 25 := (i 0).isLt
  rw [k0_part31_eq_skeleton]
  unfold k0_part31_skel
  refine T_wait_in (by unfold ahead; omega) (off28_eq i 7) (off29_eq i 7) ?_
  refine T_load_in (by unfold ahead; omega) (off31_eq i 7) ?_
  refine T_load_ty 7 (off32_eq i 7) ?_
  refine T_load_rh 7 rfl ?_
  exact pure_step h

/-- Row 7's result is stored. -/
theorem part32_run {Z₀ : sProp 𝕄} {v842 : BitVec 32} {v912 : FVec F S59x4096 .f32} {v913 : Vec F S1x59x128 .f32} {Q : (PUnit) → sProp 𝕄} (hw : ∀ x, k0_pay14 v912 v913 (Shape.reshapeEquiv squeezes_S1x4096x128_S4096x128.numel_eq x) = gRd c G (rowNo (8 * (i 0).val + 7)) x)
    (h : UO c PX G (ZW c arg1 arg2 X1 X2 Z₀) (8 * (i 0).val + 7) (ahead i) ⊢ Q ⟨⟩) :
    U2 c PX G (ZW c arg1 arg2 X1 X2 Z₀) (8 * (i 0).val + 7) (ahead i) ⊢
      Wp c defs 𝒱 (k0_part32 (F := F) i arg1 harg1 arg2 harg2 (.whole main_v0) h3 (.whole main_v11) h4 (.whole cc0_scratch0) h5 (.whole cc0_scratch1) h6 cc0_scratch2 cc0_scratch3 v842 v912 v913) Q := by
  have hs : (i 0).val < 25 := (i 0).isLt
  rw [k0_part32_eq_skeleton]
  unfold k0_part32_skel
  refine T_load_sc (by omega) (by omega) (off33_eq i 7) fun _ => ?_
  refine T_store_sc (by omega) (by omega) (off33_eq i 7) hw ?_
  exact pure_step h

end Cert.KernelIdeal.Hand
end
-- ==== Proof.Step.lean ====
/-
  One whole grid step: the opening copies at the first, the closing waits at the last, and the step's eight rows between.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {c : Dev nD}
variable {PX : Buf (Elt F) ((c : Thread nD τ).loc main_v0)} {G : Buf (Elt F) ((c : Thread nD τ).loc main_v11)}
variable {defs : Defs nD τ sig (Elt F) Λ₀} {𝒱 : Variants}
variable {X1 : S8x4096.Idx → Elt F .i32} {X2 : S8x59x128.Idx → Elt F .f32}
variable {i : grid0.Coords} {arg1 : Memref sig .tc .vmem S8x4096 .i32} {harg1 : arg1.IsWhole} {arg2 : Memref sig .tc .vmem S8x59x128 .f32} {harg2 : arg2.IsWhole} {h3 h4 h5 h6}

theorem cond1_eq : ∀ i : grid0.Coords, (Scalar.cmpi .ne (Scalar.extui (Scalar.cmpi .eq (BitVec.ofNat 32 (i 0).val) 0#32) : BitVec 32) 0#32 = 1#1 ↔ (i 0).val = 0) := by decide +kernel
theorem cond18_eq : ∀ i : grid0.Coords, (Scalar.cmpi .ne (Scalar.extui (Scalar.cmpi .eq (BitVec.ofNat 32 (i 0).val) 24#32) : BitVec 32) 0#32 = 1#1 ↔ (i 0).val = 24) := by decide +kernel

/-- The opening copies: at the first step only. -/
theorem T_open {Z : sProp 𝕄} {β : Type} {s : ℕ} {cond : BitVec 1} (hc : cond = 1#1 ↔ s = 0)
    {J : Prog (TpuEff nD τ sig (Elt F) Λ₀ .tc) β} {p : cond = 1#1 → Prog (TpuEff nD τ sig (Elt F) Λ₀ .tc) β} {Q : β → sProp 𝕄}
    (hrun : (T c PX G Z 0 16 0 0 0 ⊢ Wp c defs 𝒱 J Q) → ∀ hh, T c PX G Z 0 0 0 0 0 ⊢ Wp c defs 𝒱 (p hh) Q)
    (hJ : T c PX G Z (8 * s) (min (8 * s + 16) 200) (8 * s - 16) (8 * s) (8 * s) ⊢ Wp c defs 𝒱 J Q) :
    T c PX G Z (8 * s) (if s = 0 then 0 else min (8 * s + 16) 200) (8 * s - 16) (8 * s) (8 * s) ⊢ Wp c defs 𝒱
      (if hh : cond = 1#1 then p hh else J) Q := by
  by_cases hh : cond = 1#1
  · have h0 := hc.mp hh
    subst h0
    rw [dif_pos hh]
    exact hrun hJ hh
  · rw [dif_neg hh, if_neg (fun h0 => hh (hc.mpr h0))]
    exact hJ

/-- The closing waits: at the last step only. -/
theorem T_close {Z : sProp 𝕄} {s H : ℕ} (hs : s < 25) (hH : H = min (8 * s + 24) 200) {cond : BitVec 1} (hc : cond = 1#1 ↔ s = 24)
    {p : cond = 1#1 → Prog (TpuEff nD τ sig (Elt F) Λ₀ .tc) PUnit.{1}} {q : ¬ cond = 1#1 → Prog (TpuEff nD τ sig (Elt F) Λ₀ .tc) PUnit.{1}} {Q : PUnit.{1} → sProp 𝕄}
    (h1 : (T c PX G Z 200 200 184 184 200 ⊢ Q ⟨⟩) → ∀ hh, T c PX G Z 200 200 184 200 200 ⊢ Wp c defs 𝒱 (p hh) Q)
    (h2 : ∀ P : sProp 𝕄, (P ⊢ Q ⟨⟩) → ∀ hh, P ⊢ Wp c defs 𝒱 (q hh) Q)
    (h : T c PX G Z (8 * s + 8) H (8 * s + 8 - 16) (if s = 24 then 184 else 8 * s + 8) (8 * s + 8) ⊢ Q ⟨⟩) :
    T c PX G Z (8 * s + 8) H (8 * s + 8 - 16) (8 * s + 8) (8 * s + 8) ⊢ Wp c defs 𝒱
      (if hh : cond = 1#1 then p hh else q hh) Q := by
  by_cases hh : cond = 1#1
  · have h24 := hc.mp hh
    subst h24
    subst hH
    rw [dif_pos hh]
    exact h1 h hh
  · rw [if_neg (fun h0 => hh (hc.mpr h0))] at h
    rw [dif_neg hh]
    exact h2 _ h hh

/-- Opening copies of rows 0 to 3. -/
theorem part1_run {Z₀ : sProp 𝕄}  {Q : (PUnit) → sProp 𝕄}
    (h : T c PX G (ZW c arg1 arg2 X1 X2 Z₀) 0 4 0 0 0 ⊢ Q ⟨⟩) :
    T c PX G (ZW c arg1 arg2 X1 X2 Z₀) 0 0 0 0 0 ⊢
      Wp c defs 𝒱 (k0_part1 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part1_eq_skeleton]
  unfold k0_part1_skel
  refine T_start_in (by omega) (by omega) (by omega) rfl rfl rfl ?_
  refine T_start_in (by omega) (by omega) (by omega) rfl rfl rfl ?_
  refine T_start_in (by omega) (by omega) (by omega) rfl rfl rfl ?_
  refine T_start_in (by omega) (by omega) (by omega) rfl rfl rfl ?_
  exact pure_step h

/-- Opening copies of rows 4 to 7. -/
theorem part2_run {Z₀ : sProp 𝕄}  {Q : (PUnit) → sProp 𝕄}
    (h : T c PX G (ZW c arg1 arg2 X1 X2 Z₀) 0 8 0 0 0 ⊢ Q ⟨⟩) :
    T c PX G (ZW c arg1 arg2 X1 X2 Z₀) 0 4 0 0 0 ⊢
      Wp c defs 𝒱 (k0_part2 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part2_eq_skeleton]
  unfold k0_part2_skel
  refine T_start_in (by omega) (by omega) (by omega) rfl rfl rfl ?_
  refine T_start_in (by omega) (by omega) (by omega) rfl rfl rfl ?_
  refine T_start_in (by omega) (by omega) (by omega) rfl rfl rfl ?_
  refine T_start_in (by omega) (by omega) (by omega) rfl rfl rfl ?_
  exact pure_step h

/-- Opening copies of rows 8 to 11. -/
theorem part3_run {Z₀ : sProp 𝕄}  {Q : (PUnit) → sProp 𝕄}
    (h : T c PX G (ZW c arg1 arg2 X1 X2 Z₀) 0 12 0 0 0 ⊢ Q ⟨⟩) :
    T c PX G (ZW c arg1 arg2 X1 X2 Z₀) 0 8 0 0 0 ⊢
      Wp c defs 𝒱 (k0_part3 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part3_eq_skeleton]
  unfold k0_part3_skel
  refine T_start_in (by omega) (by omega) (by omega) rfl rfl rfl ?_
  refine T_start_in (by omega) (by omega) (by omega) rfl rfl rfl ?_
  refine T_start_in (by omega) (by omega) (by omega) rfl rfl rfl ?_
  refine T_start_in (by omega) (by omega) (by omega) rfl rfl rfl ?_
  exact pure_step h

/-- Closing waits for rows 199 down to 196. -/
theorem part4_run {Z₀ : sProp 𝕄}  {Q : (PUnit) → sProp 𝕄}
    (h : T c PX G (ZW c arg1 arg2 X1 X2 Z₀) 200 200 184 196 200 ⊢ Q ⟨⟩) :
    T c PX G (ZW c arg1 arg2 X1 X2 Z₀) 200 200 184 200 200 ⊢
      Wp c defs 𝒱 (k0_part4 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part4_eq_skeleton]
  unfold k0_part4_skel
  refine T_drain_out (by omega) (by omega) (by omega) (by omega) rfl rfl ?_
  refine T_drain_out (by omega) (by omega) (by omega) (by omega) rfl rfl ?_
  refine T_drain_out (by omega) (by omega) (by omega) (by omega) rfl rfl ?_
  refine T_drain_out (by omega) (by omega) (by omega) (by omega) rfl rfl ?_
  exact pure_step h

/-- Closing waits for rows 195 down to 192. -/
theorem part5_run {Z₀ : sProp 𝕄}  {Q : (PUnit) → sProp 𝕄}
    (h : T c PX G (ZW c arg1 arg2 X1 X2 Z₀) 200 200 184 192 200 ⊢ Q ⟨⟩) :
    T c PX G (ZW c arg1 arg2 X1 X2 Z₀) 200 200 184 196 200 ⊢
      Wp c defs 𝒱 (k0_part5 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part5_eq_skeleton]
  unfold k0_part5_skel
  refine T_drain_out (by omega) (by omega) (by omega) (by omega) rfl rfl ?_
  refine T_drain_out (by omega) (by omega) (by omega) (by omega) rfl rfl ?_
  refine T_drain_out (by omega) (by omega) (by omega) (by omega) rfl rfl ?_
  refine T_drain_out (by omega) (by omega) (by omega) (by omega) rfl rfl ?_
  exact pure_step h

/-- Closing waits for rows 191 down to 188. -/
theorem part6_run {Z₀ : sProp 𝕄}  {Q : (PUnit) → sProp 𝕄}
    (h : T c PX G (ZW c arg1 arg2 X1 X2 Z₀) 200 200 184 188 200 ⊢ Q ⟨⟩) :
    T c PX G (ZW c arg1 arg2 X1 X2 Z₀) 200 200 184 192 200 ⊢
      Wp c defs 𝒱 (k0_part6 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part6_eq_skeleton]
  unfold k0_part6_skel
  refine T_drain_out (by omega) (by omega) (by omega) (by omega) rfl rfl ?_
  refine T_drain_out (by omega) (by omega) (by omega) (by omega) rfl rfl ?_
  refine T_drain_out (by omega) (by omega) (by omega) (by omega) rfl rfl ?_
  refine T_drain_out (by omega) (by omega) (by omega) (by omega) rfl rfl ?_
  exact pure_step h

set_option maxHeartbeats 1000000 in
/-- The opening copies at the first step, and five copies ahead. -/
theorem part7_run {Z₀ : sProp 𝕄}  {Q : (Σ' (arg0 : BitVec 32) (v0 : BitVec 32), BitVec 32) → sProp 𝕄}
    (h : ∀ x, x.1 = BitVec.ofNat 32 (i 0).val → (T c PX G (ZW c arg1 arg2 X1 X2 Z₀) (8 * (i 0).val) (min (8 * (i 0).val + 21) 200) (8 * (i 0).val - 16) (8 * (i 0).val) (8 * (i 0).val) ⊢ Q x)) :
    T c PX G (ZW c arg1 arg2 X1 X2 Z₀) (8 * (i 0).val) (if (i 0).val = 0 then 0 else min (8 * (i 0).val + 16) 200) (8 * (i 0).val - 16) (8 * (i 0).val) (8 * (i 0).val) ⊢
      Wp c defs 𝒱 (k0_part7 (F := F) i arg1 harg1 arg2 harg2 (.whole main_v0) h3 (.whole main_v11) h4 (.whole cc0_scratch0) h5 (.whole cc0_scratch1) h6 cc0_scratch2 cc0_scratch3 ) Q := by
  have hs : (i 0).val < 25 := (i 0).isLt
  rw [k0_part7_eq_skeleton]
  unfold k0_part7_skel
  refine T_open (cond1_eq i) (fun hJ hh => ?_) ?_
  · refine bind_step (part1_run ?_)
    refine bind_step (part2_run ?_)
    refine bind_step (part3_run ?_)
    refine T_start_in (by omega) (by omega) (by omega) rfl rfl rfl ?_
    refine T_start_in (by omega) (by omega) (by omega) rfl rfl rfl ?_
    refine T_start_in (by omega) (by omega) (by omega) rfl rfl rfl ?_
    refine T_start_in (by omega) (by omega) (by omega) rfl rfl rfl ?_
    exact hJ
  refine T_ahead (8 * (i 0).val + 16) (by omega) (by omega) (by omega) (cond2_eq i) (off1_eq i) (off2_eq i) (off3_eq i) ?_
  refine T_ahead (8 * (i 0).val + 17) (by omega) (by omega) (by omega) (cond3_eq i) (off4_eq i) (off5_eq i) (off6_eq i) ?_
  refine T_ahead (8 * (i 0).val + 18) (by omega) (by omega) (by omega) (cond4_eq i) (off7_eq i) (off8_eq i) (off9_eq i) ?_
  refine T_ahead (8 * (i 0).val + 19) (by omega) (by omega) (by omega) (cond5_eq i) (off10_eq i) (off11_eq i) (off12_eq i) ?_
  refine T_ahead (8 * (i 0).val + 20) (by omega) (by omega) (by omega) (cond6_eq i) (off13_eq i) (off14_eq i) (off15_eq i) ?_
  exact pure_step (h _ rfl)

/-- One row's result block from the row's parameter block, its types and its right factor. -/
def lineOut (x : Vec F S1x45x4096 .f32) (t : Vec F S1x4096 .i32) (w : Vec F S1x59x128 .f32) : FVec F S1x4096x128 .f32 :=
  k0_pay2 (k0_pay1 x) t w

set_option maxHeartbeats 2000000 in
/-- One grid step. -/
theorem body_run {Z₀ : sProp 𝕄} {Q : PUnit.{1} → sProp 𝕄}
    (hG : ∀ (j : Fin 8) x, lineOut (pxBlk c PX (rowNo (8 * (i 0).val + j.val))) (tyBlk X1 j) (rhBlk X2 j)
      (Shape.reshapeEquiv squeezes_S1x4096x128_S4096x128.numel_eq x) = gRd c G (rowNo (8 * (i 0).val + j.val)) x)
    (h : T c PX G (ZW c arg1 arg2 X1 X2 Z₀) (8 * (i 0).val + 8) (ahead i) (8 * (i 0).val + 8 - 16)
      (if (i 0).val = 24 then 184 else 8 * (i 0).val + 8) (8 * (i 0).val + 8) ⊢ Q ⟨⟩) :
    T c PX G (ZW c arg1 arg2 X1 X2 Z₀) (8 * (i 0).val) (if (i 0).val = 0 then 0 else min (8 * (i 0).val + 16) 200) (8 * (i 0).val - 16)
      (8 * (i 0).val) (8 * (i 0).val) ⊢
      Wp c defs 𝒱 (cc0__seq_embed_kernel (F := F) i arg1 harg1 arg2 harg2 (.whole main_v0) h3 (.whole main_v11) h4 (.whole cc0_scratch0) h5 (.whole cc0_scratch1) h6 cc0_scratch2 cc0_scratch3) Q := by
  have hs : (i 0).val < 25 := (i 0).isLt
  rw [cc0__seq_embed_kernel_eq_skeleton]
  unfold cc0__seq_embed_kernel_skel
  refine bind_step (part7_run fun x hx => ?_)
  obtain ⟨y, z⟩ := x
  obtain rfl : y = _ := hx
  refine bind_step (part8_run fun x => ?_)
  obtain ⟨y0, y1, y2, y3, y4⟩ := x
  refine bind_step (part9_run ?_)
  refine bind_step (part10_run (fun x => hG 0 x) fun x => ?_)
  obtain ⟨y0, y1, y2, y3⟩ := x
  refine bind_step (part11_run fun x => ?_)
  obtain ⟨y0, y1, y2, y3⟩ := x
  refine bind_step (part12_run ?_)
  refine bind_step (part13_run (fun x => hG 1 x) fun x => ?_)
  obtain ⟨y0, y1, y2⟩ := x
  refine bind_step (part14_run fun x => ?_)
  obtain ⟨y0, y1, y2⟩ := x
  refine bind_step (part15_run fun x => ?_)
  obtain ⟨y0, y1, y2⟩ := x
  refine bind_step (part16_run ?_)
  refine bind_step (part17_run (fun x => hG 2 x) fun x => ?_)
  obtain ⟨y0, y1, y2, y3⟩ := x
  refine bind_step (part18_run fun x => ?_)
  obtain ⟨y0, y1, y2, y3, y4⟩ := x
  refine bind_step (part19_run ?_)
  refine bind_step (part20_run (fun x => hG 3 x) fun x => ?_)
  obtain ⟨y0, y1, y2, y3, y4⟩ := x
  refine bind_step (part21_run fun x => ?_)
  obtain ⟨y0, y1, y2, y3⟩ := x
  refine bind_step (part22_run fun x hx => ?_)
  obtain ⟨y, z⟩ := x
  obtain rfl : y = _ := hx
  refine bind_step (part23_run (fun x => hG 4 x) fun x => ?_)
  obtain ⟨y0, y1, y2, y3⟩ := x
  refine bind_step (part24_run fun x => ?_)
  refine bind_step (part25_run fun x hx => ?_)
  obtain ⟨y, z⟩ := x
  obtain rfl : y = _ := hx
  refine bind_step (part26_run (fun x => hG 5 x) fun x => ?_)
  refine bind_step (part27_run fun x => ?_)
  obtain ⟨y0, y1⟩ := x
  refine bind_step (part28_run fun x hx => ?_)
  obtain ⟨y, z⟩ := x
  obtain rfl : y = _ := hx
  refine bind_step (part29_run (fun x => hG 6 x) ?_)
  refine bind_step (part30_run fun x => ?_)
  obtain ⟨y0, y1⟩ := x
  refine bind_step (part31_run ?_)
  refine bind_step (part32_run (fun x => hG 7 x) ?_)
  refine T_start_out (by omega) (by omega) (by omega) (off34_eq i 7) (off36_eq i 7) (off35_eq i 7) ?_
  refine T_close hs rfl (cond18_eq i) (fun hQ hh => ?_) (fun P hP hh => pure_step hP) h
  refine bind_step (part4_run ?_)
  refine bind_step (part5_run ?_)
  refine bind_step (part6_run ?_)
  refine T_drain_out (by omega) (by omega) (by omega) (by omega) rfl rfl ?_
  refine T_drain_out (by omega) (by omega) (by omega) (by omega) rfl rfl ?_
  refine T_drain_out (by omega) (by omega) (by omega) (by omega) rfl rfl ?_
  refine T_drain_out (by omega) (by omega) (by omega) (by omega) rfl rfl ?_
  exact pure_step hQ

end Cert.KernelIdeal.Hand
end
-- ==== Proof.Ends.lean ====
/-
  Where the rings begin and end.

  Before the first step the kernel holds its scratch buffers, its semaphores, the parameter array and the result, each
  whole. Here they are dealt into slots, shares and rows, all free; and after the last step, all free again, they are
  put back together.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)
variable (PX : Buf (Elt F) ((c : Thread nD τ).loc main_v0)) (G : Buf (Elt F) ((c : Thread nD τ).loc main_v11))

/-! ## The pieces cover and do not meet -/

/-- The elements of a slot, and of a row, in their buffer. -/
abbrev inI (k : Fin 24) : Finset S24x45x4096.Idx := (inAt k).view.set
abbrev scI (k : Fin 16) : Finset S16x4096x128.Idx := (scAt k).view.set
abbrev ouI (l : Fin 200) : Finset S4096x200x128.Idx := (ouAt l).view.set

theorem inAt_set (k : Fin 24) : inI k = (Rect.unit (s := S24x45x4096) ![k.val, 0, 0] S1x45x4096.size (inb_in k)).set :=
  (View.set_reshape (v := (View.whole cc0_scratch0).slice (Rect.unit (s := S24x45x4096) ![k.val, 0, 0] S1x45x4096.size (inb_in k)))
    squeezes_S1x45x4096_S45x4096.numel_eq).trans (View.set_slice_whole cc0_scratch0 _)
theorem scAt_set (k : Fin 16) : scI k = (Rect.unit (s := S16x4096x128) ![k.val, 0, 0] S1x4096x128.size (inb_sc k)).set :=
  (View.set_reshape (v := (View.whole cc0_scratch1).slice (Rect.unit (s := S16x4096x128) ![k.val, 0, 0] S1x4096x128.size (inb_sc k)))
    squeezes_S1x4096x128_S4096x128.numel_eq).trans (View.set_slice_whole cc0_scratch1 _)
theorem ouAt_set (l : Fin 200) : ouI l = (Rect.unit (s := S4096x200x128) ![0, l.val, 0] S4096x1x128.size (inb_ou l)).set :=
  (View.set_reshape (v := (View.whole main_v11).slice (Rect.unit (s := S4096x200x128) ![0, l.val, 0] S4096x1x128.size (inb_ou l)))
    squeezes_S4096x1x128_S4096x128.numel_eq).trans (View.set_slice_whole main_v11 _)

theorem inAt_disj (k k' : Fin 24) (h : k ≠ k') : Disjoint (inI k) (inI k') := by
  rw [inAt_set, inAt_set]
  exact Ring.lead_disjoint (s := S24x45x4096) 0 1 (fun k : Fin 24 => ![k.val, 0, 0]) S1x45x4096.size inb_in (fun b => (Nat.one_mul _).symm) rfl k k' h
theorem inAt_cover : (Finset.univ : Finset (Fin 24)).biUnion inI = Finset.univ := by
  rw [show inI = fun k : Fin 24 => (Rect.unit (s := S24x45x4096) ![k.val, 0, 0] S1x45x4096.size (inb_in k)).set from funext inAt_set]
  exact Ring.lead_cover (s := S24x45x4096) 0 1 (fun k : Fin 24 => ![k.val, 0, 0]) S1x45x4096.size inb_in (fun b => (Nat.one_mul _).symm)
    (fun b a ha => by fin_cases a <;> first | exact absurd rfl ha | rfl) rfl (fun a ha => by fin_cases a <;> first | exact absurd rfl ha | rfl) rfl
theorem scAt_disj (k k' : Fin 16) (h : k ≠ k') : Disjoint (scI k) (scI k') := by
  rw [scAt_set, scAt_set]
  exact Ring.lead_disjoint (s := S16x4096x128) 0 1 (fun k : Fin 16 => ![k.val, 0, 0]) S1x4096x128.size inb_sc (fun b => (Nat.one_mul _).symm) rfl k k' h
theorem scAt_cover : (Finset.univ : Finset (Fin 16)).biUnion scI = Finset.univ := by
  rw [show scI = fun k : Fin 16 => (Rect.unit (s := S16x4096x128) ![k.val, 0, 0] S1x4096x128.size (inb_sc k)).set from funext scAt_set]
  exact Ring.lead_cover (s := S16x4096x128) 0 1 (fun k : Fin 16 => ![k.val, 0, 0]) S1x4096x128.size inb_sc (fun b => (Nat.one_mul _).symm)
    (fun b a ha => by fin_cases a <;> first | exact absurd rfl ha | rfl) rfl (fun a ha => by fin_cases a <;> first | exact absurd rfl ha | rfl) rfl
theorem ouAt_disj (l l' : Fin 200) (h : l ≠ l') : Disjoint (ouI l) (ouI l') := by
  rw [ouAt_set, ouAt_set]
  exact Ring.lead_disjoint (s := S4096x200x128) 1 1 (fun l : Fin 200 => ![0, l.val, 0]) S4096x1x128.size inb_ou (fun b => (Nat.one_mul _).symm) rfl l l' h
theorem ouAt_cover : (Finset.univ : Finset (Fin 200)).biUnion ouI = Finset.univ := by
  rw [show ouI = fun l : Fin 200 => (Rect.unit (s := S4096x200x128) ![0, l.val, 0] S4096x1x128.size (inb_ou l)).set from funext ouAt_set]
  exact Ring.lead_cover (s := S4096x200x128) 1 1 (fun l : Fin 200 => ![0, l.val, 0]) S4096x1x128.size inb_ou (fun b => (Nat.one_mul _).symm)
    (fun b a ha => by fin_cases a <;> first | exact absurd rfl ha | rfl) rfl (fun a ha => by fin_cases a <;> first | exact absurd rfl ha | rfl) rfl

/-! ## Scratch and result, dealt and put back -/

theorem in_split (f : Buf (Elt F) ((c : Thread nD τ).loc cc0_scratch0)) :
    (((c : Thread nD τ).loc cc0_scratch0) ↦{fullShare} f : sProp 𝕄)
      ⊢ bigSep Finset.univ fun k : Fin 24 => iprop(∃ X, owns (c : Thread nD τ) (inAt k) fullShare X) := by
  refine BIBase.Entails.trans (Entails.of_eq (Ring.pointsTo_blocks (ℓ := (c : Thread nD τ).loc cc0_scratch0) inI inAt_disj inAt_cover f)) ?_
  exact BI.bigSep_mono fun k _ =>
    show (((inAt k).view.loc (c : Thread nD τ)) ↦[(inAt k).view.set]{fullShare} f : sProp 𝕄) ⊢ iprop(∃ X, owns (c : Thread nD τ) (inAt k) fullShare X) from by
      iintro H; iexists _; iapply (owns_intro (c : Thread nD τ) (inAt k) fullShare f); iexact H

theorem in_join (f₀ : Buf (Elt F) ((c : Thread nD τ).loc cc0_scratch0)) :
    (bigSep Finset.univ fun k : Fin 24 => iprop(∃ X, owns (c : Thread nD τ) (inAt k) fullShare X) : sProp 𝕄)
      ⊢ iprop(∃ f : Buf (Elt F) ((c : Thread nD τ).loc cc0_scratch0), ((c : Thread nD τ).loc cc0_scratch0) ↦{fullShare} f) := by
  refine BIBase.Entails.trans ?_ (Ring.pointsTo_blocks_join_exists (ℓ := (c : Thread nD τ).loc cc0_scratch0) inI inAt_disj inAt_cover f₀)
  exact BI.bigSep_mono fun k _ =>
    show iprop(∃ X, owns (c : Thread nD τ) (inAt k) fullShare X)
      ⊢ (iprop(∃ f : Buf (Elt F) ((c : Thread nD τ).loc cc0_scratch0), ((c : Thread nD τ).loc cc0_scratch0) ↦[inI k]{fullShare} f) : sProp 𝕄) from by
      unfold owns
      iintro ⟨%X, %g, -, H⟩; iexists g; iexact H

theorem sc_split (f : Buf (Elt F) ((c : Thread nD τ).loc cc0_scratch1)) :
    (((c : Thread nD τ).loc cc0_scratch1) ↦{fullShare} f : sProp 𝕄)
      ⊢ bigSep Finset.univ fun k : Fin 16 => iprop(∃ X, owns (c : Thread nD τ) (scAt k) fullShare X) := by
  refine BIBase.Entails.trans (Entails.of_eq (Ring.pointsTo_blocks (ℓ := (c : Thread nD τ).loc cc0_scratch1) scI scAt_disj scAt_cover f)) ?_
  exact BI.bigSep_mono fun k _ =>
    show (((scAt k).view.loc (c : Thread nD τ)) ↦[(scAt k).view.set]{fullShare} f : sProp 𝕄) ⊢ iprop(∃ X, owns (c : Thread nD τ) (scAt k) fullShare X) from by
      iintro H; iexists _; iapply (owns_intro (c : Thread nD τ) (scAt k) fullShare f); iexact H

theorem sc_join (f₀ : Buf (Elt F) ((c : Thread nD τ).loc cc0_scratch1)) :
    (bigSep Finset.univ fun k : Fin 16 => iprop(∃ X, owns (c : Thread nD τ) (scAt k) fullShare X) : sProp 𝕄)
      ⊢ iprop(∃ f : Buf (Elt F) ((c : Thread nD τ).loc cc0_scratch1), ((c : Thread nD τ).loc cc0_scratch1) ↦{fullShare} f) := by
  refine BIBase.Entails.trans ?_ (Ring.pointsTo_blocks_join_exists (ℓ := (c : Thread nD τ).loc cc0_scratch1) scI scAt_disj scAt_cover f₀)
  exact BI.bigSep_mono fun k _ =>
    show iprop(∃ X, owns (c : Thread nD τ) (scAt k) fullShare X)
      ⊢ (iprop(∃ f : Buf (Elt F) ((c : Thread nD τ).loc cc0_scratch1), ((c : Thread nD τ).loc cc0_scratch1) ↦[scI k]{fullShare} f) : sProp 𝕄) from by
      unfold owns
      iintro ⟨%X, %g, -, H⟩; iexists g; iexact H

theorem rows_eq (f : Buf (Elt F) ((c : Thread nD τ).loc main_v11)) :
    (((c : Thread nD τ).loc main_v11) ↦{fullShare} f : sProp 𝕄) = bigSep Finset.univ fun l : Fin 200 => ouRow c l f :=
  Ring.pointsTo_blocks (ℓ := (c : Thread nD τ).loc main_v11) ouI ouAt_disj ouAt_cover f

/-! ## The semaphores -/

/-- The kernel's own semaphores: one per input slot and one per output slot. -/
abbrev osem0 : Fin 24 ⊕ Fin 16 → SemLoc sig := Sum.elim (fun k => .dma (inSem k)) (fun k => .dma (ouSem k))

theorem ownSemFacts0 : Pipeline.OwnSemFacts spec0 osem0 := by decide +kernel

theorem ownSems00_eq :
    (Pipeline.ownSems0 (Ix := Unit) (Name := ℕ) (U := Pipeline.UD sig nD τ) (Lvl := ℕ) (Val := Elt F) (τ := τ) osem0 c : sProp 𝕄)
      = iprop((bigSep Finset.univ fun k : Fin 24 => semVal ((c : Thread nD τ), SemLoc.dma (inSem k)) 0)
          ∗ bigSep Finset.univ fun k : Fin 16 => semVal ((c : Thread nD τ), SemLoc.dma (ouSem k)) 0) := by
  unfold Pipeline.ownSems0; rw [BI.bigSep_univ_sum]; rfl

/-! ## All free -/

theorem in_free (a : Fin 24 → Ph) (h : ∀ k, a k = .free) :
    Ring.AtW (InP c PX) a = iprop((bigSep Finset.univ fun k : Fin 24 => semVal ((c : Thread nD τ), SemLoc.dma (inSem k)) 0)
      ∗ (bigSep Finset.univ fun k : Fin 24 => iprop(∃ X, owns (c : Thread nD τ) (inAt k) fullShare X))
      ∗ bigSep Finset.univ fun k : Fin 24 => pxAll c PX k) := by
  unfold Ring.AtW
  rw [BI.bigSep_congr (fun k _ => (congrArg (InP c PX k) (h k)).trans (InP_free c PX k))]
  exact (BI.bigSep_sep _ _ _).trans (congrArg _ (BI.bigSep_sep _ _ _))

theorem ou_free (b : Fin 16 → Ph) (h : ∀ k, b k = .free) :
    Ring.AtW (OuP c G) b = iprop((bigSep Finset.univ fun k : Fin 16 => semVal ((c : Thread nD τ), SemLoc.dma (ouSem k)) 0)
      ∗ (bigSep Finset.univ fun k : Fin 16 => iprop(∃ X, owns (c : Thread nD τ) (scAt k) fullShare X))) := by
  unfold Ring.AtW
  rw [BI.bigSep_congr (fun k _ => (congrArg (OuP c G k) (h k)).trans (OuP_free c G k))]
  exact BI.bigSep_sep _ _ _

theorem rw_todo (r : Fin 200 → Rw) (h : ∀ l, r l = .todo) (f : Buf (Elt F) ((c : Thread nD τ).loc main_v11)) :
    (((c : Thread nD τ).loc main_v11) ↦{fullShare} f : sProp 𝕄) ⊢ Ring.AtW (RwP c G) r := by
  rw [rows_eq]; unfold Ring.AtW
  exact BI.bigSep_mono fun l _ =>
    show ouRow c l f ⊢ RwP c G l (r l) from by
      rw [h l, RwP_todo]; iintro H; iexists f; iexact H

theorem rw_done (r : Fin 200 → Rw) (h : ∀ l, r l = .done) :
    Ring.AtW (RwP c G) r = (((c : Thread nD τ).loc main_v11) ↦{fullShare} G : sProp 𝕄) := by
  rw [rows_eq]; unfold Ring.AtW
  exact BI.bigSep_congr fun l _ => (congrArg (RwP c G l) (h l)).trans (RwP_done c G l)

end Cert.KernelIdeal.Hand

end
-- ==== Proof.Run.lean ====
/-
  The whole program: the host operations, then twenty-five steps of the kernel's body over the two rings.

  The invariant before step `n` says which input slots carry copies under way, which output slots carry copies under
  way, and which rows of the result are written. The steps' triples chain through it, and at the end every row of the
  result holds its final contents.
-/
module

public import proofs.«01_k».proof.Proof.Step
public import proofs.«01_k».proof.Proof.Ends
public import proofs.«01_k».proof.Proof.Gen.KernelIdeal.Frame
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result holds -/

/-- The step that computes row `l`, and the row's place within the step. -/
def stepOf (l : Fin 200) : Fin cfg0.N := ⟨l.val / 8, by have := l.isLt; have h : cfg0.N = 25 := N_0; omega⟩
def subOf (l : Fin 200) : Fin 8 := ⟨l.val % 8, Nat.mod_lt _ (by decide)⟩

/-- Row `l` of the result. -/
def rowOut (c : Dev nD) (l : Fin 200) : S4096x128.Idx → Elt F .f32 := fun x =>
  lineOut (pxBlk c (V m c main_v0) l) (tyBlk (iblk m c 0 (stepOf l)) (subOf l)) (rhBlk (iblk m c 1 (stepOf l)) (subOf l))
    (Shape.reshapeEquiv squeezes_S1x4096x128_S4096x128.numel_eq x)

/-- The result, whole. -/
def Gout (c : Dev nD) : Buf (Elt F) ((c : Thread nD τ).loc main_v11) :=
  fun (i : S4096x200x128.Idx) => rowOut m c (i 1) (ix2 (i 0) (i 2))

/-- The buffers after the run, the result replaced. -/
def Gfin (c : Dev nD) : (b : Ref sig .tc) → Buf (Elt F) ((c : Thread nD τ).loc b) := Function.update (V m c) main_v11 (Gout m c)

theorem Gfin_result (c : Dev nD) : Gfin m c main_v11 = Gout m c := Function.update_self _ _ _

/-- A row's view reads the array at the row's number in the middle. -/
theorem gRd_eq (c : Dev nD) (G : Buf (Elt F) ((c : Thread nD τ).loc main_v11)) (l : Fin 200) (a : Fin 4096) (o : Fin 128) :
    gRd c G l (ix2 a o : S4096x128.Idx) = G (ix3 a l o : S4096x200x128.Idx) := by
  have h : (Shape.reshapeEquiv squeezes_S4096x1x128_S4096x128.numel_eq (ix2 a o : S4096x128.Idx) : S4096x1x128.Idx) = ix3 a (0 : Fin 1) o :=
    Shape.reshapeEquiv_eq_of_rowMajor squeezes_S4096x1x128_S4096x128.numel_eq (by
      refine (Shape.rowMajor_val_three _).trans (Eq.trans ?_ (Shape.rowMajor_val_two _).symm)
      show (a.val * 1 + 0) * 128 + o.val = a.val * 128 + o.val
      omega)
  show G ((Rect.unit (s := S4096x200x128) ![0, l.val, 0] S4096x1x128.size (inb_ou l)).emb
    (Shape.reshapeEquiv squeezes_S4096x1x128_S4096x128.numel_eq (ix2 a o : S4096x128.Idx))) = _
  refine congrArg G ((congrArg _ h).trans ?_)
  funext d; apply Fin.ext
  fin_cases d
  · show 0 + 1 * a.val = a.val; omega
  · show l.val + 1 * 0 = l.val; omega
  · show 0 + 1 * o.val = o.val; omega

theorem gRd_Gout (c : Dev nD) (l : Fin 200) (x : S4096x128.Idx) : gRd c (Gout m c) l x = rowOut m c l x := by
  obtain ⟨a, o, rfl⟩ : ∃ (a : Fin 4096) (o : Fin 128), x = ix2 a o := ⟨x 0, x 1, eq_ix2 x⟩
  exact gRd_eq c (Gout m c) l a o

/-- The grid's one coordinate is the step's number. -/
theorem coord_val (t : Fin cfg0.N) : (grid0.coords t 0).val = t.val :=
  (by decide +kernel : ∀ t : Fin grid0.N, (grid0.coords t 0).val = t.val) t

theorem rowOut_eq (c : Dev nD) (t : Fin cfg0.N) (j : Fin 8) (x : S4096x128.Idx) :
    lineOut (pxBlk c (V m c main_v0) (rowNo (8 * (grid0.coords t 0).val + j.val))) (tyBlk (iblk m c 0 t) j) (rhBlk (iblk m c 1 t) j)
      (Shape.reshapeEquiv squeezes_S1x4096x128_S4096x128.numel_eq x)
      = gRd c (Gout m c) (rowNo (8 * (grid0.coords t 0).val + j.val)) x := by
  have ht : t.val < 25 := N_0 ▸ t.isLt
  have hv : (rowNo (8 * (grid0.coords t 0).val + j.val)).val = 8 * t.val + j.val := by
    rw [coord_val]; show (8 * t.val + j.val) % 200 = _; have := j.isLt; omega
  have h1 : stepOf (rowNo (8 * (grid0.coords t 0).val + j.val)) = t := Fin.ext (by
    show (rowNo (8 * (grid0.coords t 0).val + j.val)).val / 8 = t.val; rw [hv]; have := j.isLt; omega)
  have h2 : subOf (rowNo (8 * (grid0.coords t 0).val + j.val)) = j := Fin.ext (by
    show (rowNo (8 * (grid0.coords t 0).val + j.val)).val % 8 = j.val; rw [hv]; have := j.isLt; omega)
  rw [gRd_Gout]; unfold rowOut; rw [h1, h2]

/-! ## The launch -/

/-- The array the body's copies read, and the one they write. -/
def H0 : Finset (Ref sig .tc) := {main_v0}
def R0 : Finset (Ref sig .tc) := {main_v11}
theorem H0_sub : H0 ⊆ Pipeline.restRefs sig spec0 := by decide
theorem R0_sub : R0 ⊆ Pipeline.restRefs sig spec0 \ H0 := by decide

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What besides the rings and rows is kept: the random register, and the parameter array's share no slot reads through. -/
def Zr (c : Dev nD) : sProp 𝕄 :=
  iprop((∃ r, prngReg c r) ∗ (((c : Thread nD τ).loc main_v0) ↦{Transfers.shareDrop fullShare 24} V m c main_v0))

/-- The rings and rows before step `n`. -/
def Inv (c : Dev nD) (n : ℕ) : sProp 𝕄 :=
  iprop(Ring.AtW (InP c (V m c main_v0)) (ringF 24 (8 * n) (if n = 0 then 0 else min (8 * n + 16) 200))
    ∗ Ring.AtW (OuP c (Gout m c)) (ringF 16 (8 * n - 16) (if n = 25 then 184 else 8 * n))
    ∗ Ring.AtW (RwP c (Gout m c)) (rowF (8 * n - 16) (if n = 25 then 184 else 8 * n) (8 * n))
    ∗ Zr m c)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

abbrev ms0_0 (t : Fin cfg0.N) : Memref sig .tc .vmem S8x4096 .i32 := win0_0.stage (cfg0.slots t 0)
abbrev ms0_1 (t : Fin cfg0.N) : Memref sig .tc .vmem S8x59x128 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The state the body is entered in is the invariant before the step, the two blocks and what is owed; -/
theorem enter (c : Dev nD) (t : Fin cfg0.N) :
    bodyPre m c t ⊢ T c (V m c main_v0) (Gout m c) (ZW c (ms0_0 t) (ms0_1 t) (iblk m c 0 t) (iblk m c 1 t) (Zr m c))
      (8 * (grid0.coords t 0).val) (if (grid0.coords t 0).val = 0 then 0 else min (8 * (grid0.coords t 0).val + 16) 200)
      (8 * (grid0.coords t 0).val - 16) (8 * (grid0.coords t 0).val) (8 * (grid0.coords t 0).val) := by
  have ht : t.val ≠ 25 := fun h => by have := t.isLt; have h2 : cfg0.N = 25 := N_0; omega
  unfold bodyPre T St ZW
  rw [show (dats m 0 c).Φ t.castSucc = Inv m c t.val from rfl]
  unfold Dat.owesAt Pipeline.owesWithin Inv
  rw [show (dats m 0 c).owed t.castSucc = 0 from rfl, if_neg ht, coord_val]
  iintro ⟨⟨HI, HO, HR, HZ⟩, ⟨%W, -, HW⟩, ⟨%d0, H0⟩, ⟨%d1, H1⟩⟩
  rw [before0_0, before0_1]
  isplitl [HI]; · iexact HI
  isplitl [HO]; · iexact HO
  isplitl [HR]; · iexact HR
  isplitl [HW]; · iexists W; iexact HW
  isplitl [H0]; · iexact H0
  isplitl [H1]; · iexact H1
  iexact HZ

/-- and the state it leaves is the invariant before the next. -/
theorem leave (c : Dev nD) (t : Fin cfg0.N) :
    T c (V m c main_v0) (Gout m c) (ZW c (ms0_0 t) (ms0_1 t) (iblk m c 0 t) (iblk m c 1 t) (Zr m c))
      (8 * (grid0.coords t 0).val + 8) (ahead (grid0.coords t)) (8 * (grid0.coords t 0).val + 8 - 16)
      (if (grid0.coords t 0).val = 24 then 184 else 8 * (grid0.coords t 0).val + 8) (8 * (grid0.coords t 0).val + 8) ⊢ bodyPost m c t := by
  have e1 : (if t.val + 1 = 0 then 0 else min (8 * (t.val + 1) + 16) 200) = min (8 * t.val + 24) 200 := by
    rw [if_neg (Nat.succ_ne_zero _)]; congr 1
  have e2 : (if t.val + 1 = 25 then 184 else 8 * (t.val + 1)) = if t.val = 24 then 184 else 8 * t.val + 8 := by
    by_cases h : t.val = 24
    · rw [if_pos h, if_pos (by omega)]
    · rw [if_neg h, if_neg (by omega)]; omega
  unfold bodyPost T St ZW ahead
  rw [show (dats m 0 c).Φ t.succ = Inv m c (t.val + 1) from rfl]
  unfold Dat.owesAt Pipeline.owesWithin Inv
  rw [show (dats m 0 c).owed t.succ = 0 from rfl, after0_0, after0_1, coord_val, e1, e2, show 8 * (t.val + 1) = 8 * t.val + 8 from Nat.mul_succ 8 _]
  iintro ⟨HI, HO, HR, ⟨%W, HW⟩, H0, H1, HZ⟩
  isplitl [HI HO HR HZ]
  · isplitl [HI]; · iexact HI
    isplitl [HO]; · iexact HO
    isplitl [HR]; · iexact HR
    iexact HZ
  isplitl [HW]
  · iexists W; isplitr; · ipureintro; exact fun _ _ => Or.inl trivial
    iexact HW
  isplitl [H0]; · iexact H0
  iexact H1

theorem sound_body (c : Dev nD) (t : Fin cfg0.N) :
    bodyPre m c t ⊢ wp frame (wpE (defs₀ (F := F)) Variants.none c none) Set.univ (bodyAt0 t) (fun _ => bodyPost m c t) :=
  BIBase.Entails.trans (enter m c t) (body_run (Q := fun _ => bodyPost m c t) (rowOut_eq m c t) (leave m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Before the first step and after the last -/

theorem Inv_first (c : Dev nD) : Inv m c 0
    = iprop(Ring.AtW (InP c (V m c main_v0)) (ringF 24 0 0) ∗ Ring.AtW (OuP c (Gout m c)) (ringF 16 0 0)
      ∗ Ring.AtW (RwP c (Gout m c)) (rowF 0 0 0) ∗ Zr m c) := rfl
theorem Inv_last (c : Dev nD) : Inv m c 25
    = iprop(Ring.AtW (InP c (V m c main_v0)) (ringF 24 200 200) ∗ Ring.AtW (OuP c (Gout m c)) (ringF 16 184 184)
      ∗ Ring.AtW (RwP c (Gout m c)) (rowF 184 184 200) ∗ Zr m c) := rfl

theorem hin (c : Dev nD) : Pipeline.ΦDRG osem0 spec0 H0 R0 (V m) (V m) c ⊢ (dats m 0 c).Φ 0 := by
  rw [show (dats m 0 c).Φ 0 = Inv m c 0 from rfl, Inv_first, Pipeline.ΦDRG_eq, scopedRest0_eq, ownSems00_eq]
  unfold Zr H0 R0
  rw [BI.bigSep_singleton, Pipeline.routed_singleton,
    in_free c _ _ (fun k => ringF_empty 0 k), ou_free c _ _ (fun k => ringF_empty 0 k)]
  iintro ⟨⟨⟨%f0, H0⟩, ⟨%f1, H1⟩⟩, Hp, ⟨Hi, Ho⟩, Hx, Hr⟩
  ihave ⟨Hd, Ht⟩ := (Transfers.pointsTo_toks_split fullShare 24) $$ Hx
  isplitl [Hi H0 Ht]
  · isplitl [Hi]; · iexact Hi
    isplitl [H0]; · iapply (in_split c f0); iexact H0
    iexact Ht
  isplitl [Ho H1]
  · isplitl [Ho]; · iexact Ho
    iapply (sc_split c f1); iexact H1
  isplitl [Hr]
  · iapply (rw_todo c _ _ (fun l => rowF_none l) _); iexact Hr
  isplitl [Hp]; · iexact Hp
  iexact Hd

theorem hout (c : Dev nD) : (dats m 0 c).Φ (Fin.last cfg0.N) ⊢ Pipeline.ΦDRG osem0 spec0 H0 R0 (V m) (Gfin m) c := by
  rw [show (dats m 0 c).Φ (Fin.last cfg0.N) = Inv m c 25 from rfl, Inv_last, Pipeline.ΦDRG_eq, scopedRest0_eq, ownSems00_eq]
  unfold Zr H0 R0
  rw [BI.bigSep_singleton, Pipeline.routed_singleton, Gfin_result,
    in_free c _ _ (fun k => ringF_empty 200 k), ou_free c _ _ (fun k => ringF_empty 184 k), rw_done c _ _ (fun l => rowF_all l)]
  iintro ⟨⟨Hi, H0, Ht⟩, ⟨Ho, H1⟩, Hr, Hp, Hd⟩
  isplitl [H0 H1]
  · isplitl [H0]; · iapply (in_join c (fun _ => Classical.arbitrary _)); iexact H0
    iapply (sc_join c (fun _ => Classical.arbitrary _)); iexact H1
  isplitl [Hp]; · iexact Hp
  isplitl [Hi Ho]
  · isplitl [Hi]; · iexact Hi
    iexact Ho
  isplitl [Hd Ht]
  · iapply (Transfers.pointsTo_toks_join fullShare 24)
    isplitl [Hd]; · iexact Hd
    iexact Ht
  iexact Hr

/-! ## The run -/

set_option backward.isDefEq.respectTransparency.types false in
theorem run_main : θ_run defs (onTc (τ := τ) (main (F := F))) (s₀ m ρ)
    (fun r => Pipeline.FramePostRG cfgs (dats m) 0 R0 (V m) (Gfin m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := Gfin m)
    (hin := hin m) (hout := hout m)

/-- The program ends, every semaphore at zero, its arguments unchanged and its result at `Gout`. -/
theorem run : θ_run defs (onTc (τ := τ) (main (F := F))) ⟨m, fun _ => 0, ρ⟩ (fun r => (∀ c : Dev nD,
      r.2.mem ((c.tc : Thread nD τ).loc main_v11) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  have keep : ∀ b : Ref sig .tc, b ∈ Pipeline.restRefs sig spec0 → b ∉ R0 → b ∈ Pipeline.restRefs sig spec0 \ R0 :=
    fun b h1 h2 => Finset.mem_sdiff.mpr ⟨h1, h2⟩
  (θ_run defs _ _).mono (fun r h => ⟨fun c => ⟨(h.1.2 c main_v11 (by decide)).trans (Gfin_result m c),
      ((h.1.1 c).2 main_arg0 (keep _ (Pipeline.mem_restRefs_of main_arg0 (by decide) (by decide)) (by decide))).trans (V_main_arg0 m c),
      ((h.1.1 c).2 main_arg1 (keep _ (Pipeline.mem_restRefs_of main_arg1 (by decide) (by decide)) (by decide))).trans (V_main_arg1 m c),
      ((h.1.1 c).2 main_arg2 (keep _ (Pipeline.mem_restRefs_of main_arg2 (by decide) (by decide)) (by decide))).trans (V_main_arg2 m c),
      ((h.1.1 c).2 main_arg3 (keep _ (Pipeline.mem_restRefs_of main_arg3 (by decide) (by decide)) (by decide))).trans (V_main_arg3 m c),
      ((h.1.1 c).2 main_arg4 (keep _ (Pipeline.mem_restRefs_of main_arg4 (by decide) (by decide)) (by decide))).trans (V_main_arg4 m c),
      ((h.1.1 c).2 main_arg5 (keep _ (Pipeline.mem_restRefs_of main_arg5 (by decide) (by decide)) (by decide))).trans (V_main_arg5 m c)⟩, h.2⟩)
    (run_main m ρ)

end Cert.KernelIdeal.Hand

end
-- ==== Proof.Words.lean ====
/- The two programs keep a type word inside the thirteen rows of the type table in two different ways. Here both ways are
   shown to give the same row, and that row is shown to lie between 0 and 12, so that the reference's bounds test on it
   always passes and its wrapping of negative positions never happens. -/
module

public import Idealize.ShloMosaic.Lib.Pointwise

@[expose] public section

set_option maxRecDepth 16384

noncomputable section

namespace Cert.Seq

open Idealize.ShloMosaic

/-- The reference's row for a type word: a negative word goes to row 12, then the word is clamped into 0 … 12. -/
def row (t : BitVec 32) : BitVec 32 :=
  IntOp.minsi 12#32 (IntOp.maxsi 0#32 (Scalar.select (IntOp.cmpi .slt t 0#32) 12#32 t))

/-- The kernel's row for a type word: a negative word goes to row 12, another word is cut off at 12. -/
theorem row_eq (t : BitVec 32) :
    Scalar.select (IntOp.cmpi .slt t 0#32) 12#32 (IntOp.minsi t 12#32) = row t := by
  unfold row
  simp only [IntOp.minsi, IntOp.maxsi, Scalar.select, IntOp.cmpi, BitVec.slt, BitVec.sle, decide_eq_true_eq]
  apply BitVec.eq_of_toInt_eq
  by_cases h : t.toInt < 0
  · simp [h]
  · simp [h]
    split_ifs <;> simp_all <;> omega

/-- The row is at least 0 and at most 12. -/
theorem row_bounds (t : BitVec 32) : 0 ≤ (row t).toInt ∧ (row t).toInt ≤ 12 := by
  unfold row
  simp only [IntOp.minsi, IntOp.maxsi]
  generalize Scalar.select (IntOp.cmpi .slt t 0#32) 12#32 t = u
  simp only [BitVec.slt, BitVec.sle, decide_eq_true_eq]
  split_ifs <;> simp_all <;> omega

/-- The row as a position of the type table. -/
def rowIx (t : BitVec 32) : Fin 13 := ⟨(row t).toInt.toNat, by have := row_bounds t; omega⟩

theorem row_ofNat (t : BitVec 32) : row t = BitVec.ofNat 32 (rowIx t).val := by
  have h := row_bounds t
  apply BitVec.eq_of_toInt_eq
  have e : ((rowIx t).val : Int) = (row t).toInt := Int.toNat_of_nonneg h.1
  rw [BitVec.toInt_ofNat', Int.bmod_eq_of_le] <;> omega

/-- A row is found by its position. -/
theorem ofNat_eq_row (k : Fin 13) (t : BitVec 32) : BitVec.ofNat 32 k.val = row t ↔ k = rowIx t := by
  rw [row_ofNat]
  constructor
  · intro h
    have := congrArg BitVec.toNat h
    simp only [BitVec.toNat_ofNat] at this
    apply Fin.ext
    have h1 := k.isLt; have h2 := (rowIx t).isLt
    omega
  · rintro rfl; rfl

/-- A word between 0 and 12 passes the reference's test and is not wrapped. -/
theorem row_pass (t : BitVec 32) :
    Scalar.select (IntOp.cmpi .slt (row t) 0#32) (IntOp.addi (row t) 13#32) (row t) = row t
      ∧ IntOp.cmpi .sge (row t) 0#32 = 1#1 ∧ IntOp.cmpi .sle (row t) 12#32 = 1#1 := by
  obtain ⟨h0, h1⟩ := row_bounds t
  generalize row t = u at *
  refine ⟨?_, ?_, ?_⟩
  · have : ¬ u.toInt < 0 := by omega
    simp [Scalar.select, IntOp.cmpi, BitVec.slt, this]
  · simp [IntOp.cmpi, BitVec.slt, BitVec.sle, h0]
  · simp [IntOp.cmpi, BitVec.slt, BitVec.sle, h1]

/-- A sequence position as a word passes the reference's test and is not wrapped. -/
theorem pos_pass (l : Fin 200) :
    Scalar.select (IntOp.cmpi .slt (BitVec.ofNat 32 l.val) 0#32) (IntOp.addi (BitVec.ofNat 32 l.val) 200#32) (BitVec.ofNat 32 l.val)
        = BitVec.ofNat 32 l.val
      ∧ IntOp.cmpi .sge (BitVec.ofNat 32 l.val) 0#32 = 1#1 ∧ IntOp.cmpi .sle (BitVec.ofNat 32 l.val) 199#32 = 1#1
      ∧ (BitVec.ofNat 32 l.val).toInt.toNat = l.val := by
  revert l; decide

end Cert.Seq

end
-- ==== Proof.KernelLine.lean ====
/- One row of the kernel's result, read at an index. The kernel multiplies one stacked factor by another: 45 rows of nonnegative
   parameters, 13 rows holding a one at the type's row and zeros elsewhere, and a row of ones; against it the weights, the
   type table and a row holding position plus bias. The product is the sum of the three, and the middle part picks the type's
   row of the table. -/
module

public import proofs.«01_k».proof.Proof.Step
public import proofs.«01_k».proof.Proof.Words

@[expose] public section

set_option maxRecDepth 16384

noncomputable section

namespace Cert.KernelIdeal.Hand

open Idealize.ShloMosaic Idealize.ShloMosaic.TcCoe
open Cert.KernelIdeal Cert.KernelIdeal.Gen Cert.Seq

/-- A sum over 59 rows, cut into its 45, its 13 and its last. -/
theorem sum_59 (f : Fin 59 → EReal) :
    ∑ k : Fin 59, f k = (∑ p : Fin 45, f ⟨p.val, by omega⟩) + ((∑ k : Fin 13, f ⟨45 + k.val, by omega⟩) + f ⟨58, by omega⟩) := by
  have h1 : ∑ k : Fin 59, f k = (∑ p : Fin 45, f (Fin.castAdd 14 p)) + ∑ k : Fin 14, f (Fin.natAdd 45 k) :=
    Fin.sum_univ_add (a := 45) (b := 14) f
  rw [h1, Fin.sum_univ_castSucc (fun k : Fin 14 => f (Fin.natAdd 45 k))]
  rfl

/-- The 13 rows with a one at row `r` and zeros elsewhere pick row `r`. -/
theorem onehot_sum (u : BitVec 32) (g : Fin 13 → EReal) :
    ∑ k : Fin 13, (FloatOps.sitofp (F := Ideal) .f32 (BitVec.setWidth 32 (IntOp.cmpi .eq (BitVec.ofNat 32 k.val) (row u))) : EReal) * g k
      = g (rowIx u) := by
  rw [Finset.sum_eq_single (rowIx u)]
  · have h : IntOp.cmpi .eq (BitVec.ofNat 32 (rowIx u).val) (row u) = 1#1 := by
      rw [(ofNat_eq_row (rowIx u) u).2 rfl]; simp [IntOp.cmpi]
    rw [h]
    have e : (FloatOps.sitofp (F := Ideal) .f32 (BitVec.setWidth 32 (1#1)) : EReal) = 1 := by
      show (((BitVec.setWidth 32 (1#1)).toInt : ℝ) : EReal) = 1
      have : (BitVec.setWidth 32 (1#1)).toInt = 1 := by decide
      rw [this]; simp
    rw [e, one_mul]
  · intro k _ hk
    have h : IntOp.cmpi .eq (BitVec.ofNat 32 k.val) (row u) = 0#1 := by
      have hne : BitVec.ofNat 32 k.val ≠ row u := fun h => hk ((ofNat_eq_row k u).1 h)
      show BitVec.ofBool (BitVec.ofNat 32 k.val == row u) = 0#1
      rw [beq_eq_false_iff_ne.2 hne]; rfl
    rw [h]
    have e : (FloatOps.sitofp (F := Ideal) .f32 (BitVec.setWidth 32 (0#1)) : EReal) = 0 := by
      show (((BitVec.setWidth 32 (0#1)).toInt : ℝ) : EReal) = 0
      have : (BitVec.setWidth 32 (0#1)).toInt = 0 := by decide
      rw [this]; simp
    rw [e, zero_mul]
  · exact fun h => absurd (Finset.mem_univ _) h

/-- A row's result: nonnegative parameters times weights, plus the type's row of the table, plus the last row. -/
theorem lineOut_apply (x : FVec Ideal S1x45x4096 .f32) (t : IVec S1x4096 32) (w : FVec Ideal S1x59x128 .f32)
    (a : Fin 4096) (o : Fin 128) :
    lineOut (F := Ideal) x t w (ix3 0 a o)
      = (∑ p : Fin 45, max (x (ix3 0 p a)) 0 * w (ix3 0 (⟨p.val, by omega⟩ : Fin 59) o))
        + (w (ix3 0 (⟨45 + (rowIx (t (ix2 0 a))).val, by omega⟩ : Fin 59) o) + w (ix3 0 (⟨58, by omega⟩ : Fin 59) o)) := by
  pointwise [lineOut, k0_pay1, k0_pay2]
  rw [sum_59]
  refine congrArg₂ (· + ·) (Finset.sum_congr rfl fun p _ => ?_) (congrArg₂ (· + ·) ?_ ?_)
  · rw [dif_pos (show p.val < 45 from p.isLt)]
  · refine Eq.trans (Finset.sum_congr rfl fun k _ => ?_)
      (onehot_sum (t (ix2 0 a)) fun k => w (ix3 0 (⟨45 + k.val, by omega⟩ : Fin 59) o))
    rw [dif_neg (show ¬ 45 + k.val < 45 by omega), dif_pos (show 45 + k.val - 45 < 13 by omega), row_eq]
    rw [show 45 + k.val - 45 = k.val by omega]
  · rw [dif_neg (show ¬ 58 < 45 by omega), dif_neg (show ¬ 58 - 45 < 13 by omega), one_mul]
    rfl

end Cert.KernelIdeal.Hand

end
-- ==== Proof.KernelArrays.lean ====
/- What the arrays the host part of the kernel program prepares hold, read at an index of the arguments. -/
module

public import proofs.«01_k».proof.Proof.Run
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)

/-- The stacked right factor the host part makes of its arguments. -/
def stack (E : FVec Ideal S13x128 .f32) (W : FVec Ideal S45x128 .f32) (b : FVec Ideal S128 .f32) (P : FVec Ideal S200x128 .f32) :
    FVec Ideal S200x59x128 .f32 :=
  concatenate S200x59x128 1
    [⟨S200x45x128, broadcastInDim S200x45x128 ![0, 1, 2] bcast_S1x45x128_S200x45x128_0_1_2
        (broadcastInDim S1x45x128 ![1, 2] bcast_S45x128_S1x45x128_1_2 W)⟩,
     ⟨S200x13x128, broadcastInDim S200x13x128 ![0, 1, 2] bcast_S1x13x128_S200x13x128_0_1_2
        (broadcastInDim S1x13x128 ![1, 2] bcast_S13x128_S1x13x128_1_2 E)⟩,
     ⟨S200x1x128, broadcastInDim S200x1x128 ![0, 2] bcast_S200x128_S200x1x128_0_2
        (addf P (broadcastInDim S200x128 ![0, 1] bcast_S1x128_S200x128_0_1 (broadcastInDim S1x128 ![1] bcast_S128_S1x128_1 b)))⟩]
    concatenates_S200x45x128_S200x13x128_S200x1x128_S200x59x128_d1

variable (E : FVec Ideal S13x128 .f32) (W : FVec Ideal S45x128 .f32) (b : FVec Ideal S128 .f32) (P : FVec Ideal S200x128 .f32)

/-- Its first 45 rows are the weights, -/
theorem stack_weights (l : Fin 200) (p : Fin 45) (o : Fin 128) :
    stack E W b P (ix3 l (⟨p.val, by omega⟩ : Fin 59) o) = W (ix2 p o) := by
  pointwise [stack]

/-- the next 13 the type table, -/
theorem stack_types (l : Fin 200) (k : Fin 13) (o : Fin 128) :
    stack E W b P (ix3 l (⟨45 + k.val, by omega⟩ : Fin 59) o) = E (ix2 k o) := by
  pointwise [stack]

/-- and the last the position's row plus the bias. -/
theorem stack_last (l : Fin 200) (o : Fin 128) :
    stack E W b P (ix3 l (⟨58, by omega⟩ : Fin 59) o) = P (ix2 l o) + b (ix1 o) := by
  pointwise [stack]

set_option maxHeartbeats 1000000 in
theorem V_stack : V m c main_v10 = stack (m ((c.tc : Thread nD τ).loc main_arg2)) (m ((c.tc : Thread nD τ).loc main_arg3))
    (m ((c.tc : Thread nD τ).loc main_arg4)) (m ((c.tc : Thread nD τ).loc main_arg5)) := by
  delta V hostOps0
  after_results
  rfl

theorem V_types : V m c main_v1
    = transpose S200x4096 [1, 0] (m ((c.tc : Thread nD τ).loc main_arg0)) transposes_S4096x200_S200x4096_1_0 := by
  entry_read
  rfl

theorem V_params : V m c main_v0
    = transpose S45x200x4096 [2, 1, 0] (m ((c.tc : Thread nD τ).loc main_arg1)) transposes_S4096x200x45_S45x200x4096_2_1_0 := by
  entry_read
  rfl

/-- Where a step's blocks lie in the two arrays. -/
theorem idx_types : ∀ t : Fin cfg0.N, win0_0.index t = ![t.val, 0] :=
  (by decide +kernel : ∀ t : Fin grid0.N, win0_0.index t = ![t.val, 0])
theorem idx_stack : ∀ t : Fin cfg0.N, win0_1.index t = ![t.val, 0, 0] :=
  (by decide +kernel : ∀ t : Fin grid0.N, win0_1.index t = ![t.val, 0, 0])

theorem step_sub (l : Fin 200) : (stepOf l).val * 8 + (subOf l).val = l.val := by
  show l.val / 8 * 8 + l.val % 8 = l.val
  omega

/-- Row `l` of the types, as its step stages it. -/
theorem types_row (l : Fin 200) (a : Fin 4096) :
    tyBlk (iblk m c 0 (stepOf l)) (subOf l) (ix2 0 a) = V m c main_v1 (ix2 l a : S200x4096.Idx) := by
  show V m c main_v1 _ = _
  refine congrArg (V m c main_v1) ?_
  have h := step_sub l
  funext d; apply Fin.ext
  fin_cases d
  · blk_simp [idx_types]
    show (stepOf l).val * 8 + ((subOf l).val + 1 * 0) = l.val
    omega
  · blk_simp [idx_types]
    show 0 + 1 * a.val = a.val
    omega

/-- Row `l` of the right factor, as its step stages it. -/
theorem stack_row (l : Fin 200) (k : Fin 59) (o : Fin 128) :
    rhBlk (iblk m c 1 (stepOf l)) (subOf l) (ix3 0 k o) = V m c main_v10 (ix3 l k o : S200x59x128.Idx) := by
  show V m c main_v10 _ = _
  refine congrArg (V m c main_v10) ?_
  have h := step_sub l
  funext d; apply Fin.ext
  fin_cases d
  · blk_simp [idx_stack]
    show (stepOf l).val * 8 + ((subOf l).val + 1 * 0) = l.val
    omega
  · blk_simp [idx_stack]
    show 0 + 1 * k.val = k.val
    omega
  · blk_simp [idx_stack]
    show 0 + 1 * o.val = o.val
    omega

/-- Row `l` of the parameters, as its copy brings it in. -/
theorem params_row (PX : Buf (Elt Ideal) ((c : Thread nD τ).loc main_v0)) (l : Fin 200) (p : Fin 45) (a : Fin 4096) :
    pxBlk c PX l (ix3 0 p a) = PX (ix3 p l a : S45x200x4096.Idx) := by
  have h1 : (Shape.reshapeEquiv squeezes_S1x45x4096_S45x4096.numel_eq).symm (ix3 0 p a : S1x45x4096.Idx) = (ix2 p a : S45x4096.Idx) := by
    rw [Equiv.symm_apply_eq]
    exact (Shape.reshapeEquiv_eq_of_rowMajor squeezes_S1x45x4096_S45x4096.numel_eq (by
      refine (Shape.rowMajor_val_three _).trans (Eq.trans ?_ (Shape.rowMajor_val_two _).symm)
      show (0 * 45 + p.val) * 4096 + a.val = p.val * 4096 + a.val
      omega)).symm
  have h2 : (Shape.reshapeEquiv squeezes_S45x1x4096_S45x4096.numel_eq (ix2 p a : S45x4096.Idx) : S45x1x4096.Idx) = ix3 p (0 : Fin 1) a :=
    Shape.reshapeEquiv_eq_of_rowMajor squeezes_S45x1x4096_S45x4096.numel_eq (by
      refine (Shape.rowMajor_val_three _).trans (Eq.trans ?_ (Shape.rowMajor_val_two _).symm)
      show (p.val * 1 + 0) * 4096 + a.val = p.val * 4096 + a.val
      omega)
  unfold pxBlk
  rw [h1]
  show PX ((Rect.unit (s := S45x200x4096) ![0, l.val, 0] S45x1x4096.size (inb_px l)).emb
    (Shape.reshapeEquiv squeezes_S45x1x4096_S45x4096.numel_eq (ix2 p a : S45x4096.Idx))) = _
  refine congrArg PX ((congrArg _ h2).trans ?_)
  funext d; apply Fin.ext
  fin_cases d
  · show 0 + 1 * p.val = p.val; omega
  · show l.val + 1 * 0 = l.val; omega
  · show 0 + 1 * a.val = a.val; omega

end Cert.KernelIdeal.Hand

end
-- ==== Proof.KernelValue.lean ====
/- The kernel's whole result, read at an index of its arguments. -/
module

public import proofs.«01_k».proof.Proof.KernelLine
public import proofs.«01_k».proof.Proof.KernelArrays

@[expose] public section

set_option maxRecDepth 16384

noncomputable section

namespace Cert.KernelIdeal.Hand

open Idealize.ShloMosaic Idealize.ShloMosaic.TcCoe
open Cert.KernelIdeal Cert.KernelIdeal.Gen Cert.Seq

/-- The kernel's result over its arguments, at position `l` of sequence `a`, output entry `o`. -/
def kerAt (T : IVec S4096x200 32) (X : FVec Ideal S4096x200x45 .f32) (E : FVec Ideal S13x128 .f32)
    (W : FVec Ideal S45x128 .f32) (b : FVec Ideal S128 .f32) (P : FVec Ideal S200x128 .f32)
    (a : Fin 4096) (l : Fin 200) (o : Fin 128) : EReal :=
  (∑ p : Fin 45, max (X (ix3 a l p)) 0 * W (ix2 p o))
    + (E (ix2 (rowIx (T (ix2 a l))) o) + (P (ix2 l o) + b (ix1 o)))

/-- A result row over a parameter block, a row of types and a right factor that hold the arguments' entries. -/
theorem lineOut_args (x : FVec Ideal S1x45x4096 .f32) (t : IVec S1x4096 32) (w : FVec Ideal S1x59x128 .f32)
    (T : IVec S4096x200 32) (X : FVec Ideal S4096x200x45 .f32) (E : FVec Ideal S13x128 .f32)
    (W : FVec Ideal S45x128 .f32) (b : FVec Ideal S128 .f32) (P : FVec Ideal S200x128 .f32)
    (a : Fin 4096) (l : Fin 200) (o : Fin 128)
    (hx : ∀ p : Fin 45, x (ix3 0 p a) = X (ix3 a l p)) (ht : t (ix2 0 a) = T (ix2 a l))
    (hw : ∀ k : Fin 59, w (ix3 0 k o) = stack E W b P (ix3 l k o)) :
    lineOut (F := Ideal) x t w (ix3 0 a o) = kerAt T X E W b P a l o := by
  refine (lineOut_apply x t w a o).trans (congrArg₂ (· + ·) (Finset.sum_congr rfl fun p _ => ?_)
    (congrArg₂ (· + ·) (((hw _).trans (stack_types E W b P l _ o)).trans (congrArg (fun u => E (ix2 (rowIx u) o)) ht))
      ((hw _).trans (stack_last E W b P l o))))
  exact congrArg₂ (· * ·) (congrArg (fun y : EReal => max y 0) (hx p)) ((hw _).trans (stack_weights E W b P l p o))

theorem transpose_params (X : FVec Ideal S4096x200x45 .f32) (a : Fin 4096) (l : Fin 200) (p : Fin 45) :
    transpose S45x200x4096 [2, 1, 0] X transposes_S4096x200x45_S45x200x4096_2_1_0 (ix3 p l a) = X (ix3 a l p) := by
  pointwise

theorem transpose_types (T : IVec S4096x200 32) (a : Fin 4096) (l : Fin 200) :
    transpose S200x4096 [1, 0] T transposes_S4096x200_S200x4096_1_0 (ix2 l a) = T (ix2 a l) := by
  pointwise

variable (m : (ℓ : Loc nD τ sig) → Buf (Elt Ideal) ℓ) (c : Dev nD)

theorem Gout_apply (a : Fin 4096) (l : Fin 200) (o : Fin 128) :
    Gout m c (ix3 a l o : S4096x200x128.Idx)
      = kerAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) a l o := by
  have h : (Shape.reshapeEquiv squeezes_S1x4096x128_S4096x128.numel_eq (ix2 a o : S4096x128.Idx) : S1x4096x128.Idx) = ix3 (0 : Fin 1) a o :=
    Shape.reshapeEquiv_eq_of_rowMajor squeezes_S1x4096x128_S4096x128.numel_eq (by
      refine (Shape.rowMajor_val_three _).trans (Eq.trans ?_ (Shape.rowMajor_val_two _).symm)
      show (0 * 4096 + a.val) * 128 + o.val = a.val * 128 + o.val
      omega)
  show lineOut (pxBlk c (V m c main_v0) l) (tyBlk (iblk m c 0 (stepOf l)) (subOf l)) (rhBlk (iblk m c 1 (stepOf l)) (subOf l))
    (Shape.reshapeEquiv squeezes_S1x4096x128_S4096x128.numel_eq (ix2 a o : S4096x128.Idx)) = _
  refine (congrArg _ h).trans (lineOut_args _ _ _ _ _ _ _ _ _ a l o (fun p => ?_) ?_ fun k => ?_)
  · rw [params_row, V_params]
    generalize m ((c.tc : Thread nD τ).loc main_arg1) = X
    exact transpose_params X a l p
  · rw [types_row, V_types]
    generalize m ((c.tc : Thread nD τ).loc main_arg0) = T
    exact transpose_types T a l
  · rw [stack_row, V_stack]

end Cert.KernelIdeal.Hand

end
-- ==== Proof.RefRows.lean ====
/- The two table lookups of the reference, read at an index. The reference looks a row up with a gather, which clamps the row
   number into the table, and replaces the looked-up row by a fill value where the row number fails a bounds test. Both
   row numbers it uses lie inside their tables, so each lookup is the plain table entry. -/
module

public import proofs.«01_k».proof.Proof.Gen.ReferenceIdeal.Run
public import proofs.«01_k».proof.Proof.Words

@[expose] public section

set_option maxRecDepth 16384

noncomputable section

namespace Cert.ReferenceIdeal.Hand

open Idealize.ShloMosaic Idealize.ShloMosaic.TcCoe
open Cert.ReferenceIdeal Cert.ReferenceIdeal.Gen Cert.Seq

/-- A lookup of whole rows of a two-axis table, whatever the shape of the row numbers: when result entry `j` takes its row number
    at `k` and its place along the row is `o`, it is the table's entry at that number, read as a signed word and cut off at
    the table's last row, and at place `o`. -/
theorem rowGather {α : Type} {N M w : ℕ} {si t : Shape} (d : GatherDims ⟨2, ![N, M]⟩ si t) {ax : Fin t.rank}
    (hc : d.collapsedSliceDims = [0]) (hb : d.operandBatchingDims = []) (hs : d.startIndexMap = [0]) (ho : d.offsetDims = [ax])
    (E : (⟨2, ![N, M]⟩ : Shape).Idx → α) (I : IVec si w) (j : t.Idx) (k : si.Idx) (hk : ∀ q, d.siIdx j q = k)
    (r : Fin N) (o : Fin M) (hr : min (I k).toInt.toNat (N - 1) = r.val) (hj : (j ax).val = o.val) :
    Host.gather d E I j = E (ix2 r o) := by
  have kept : d.sKept = [1] := by simp only [GatherDims.sKept, hc, hb]; rfl
  have row : (d.operandIdx j I 0).val = r.val := by
    have hn : (0 : Fin 2) ∉ d.sKept := by rw [kept]; exact fun h => absurd (List.mem_singleton.mp h) Fin.zero_ne_one
    have hm : (0 : Fin 2) ∈ d.startIndexMap := by rw [hs]; exact List.mem_singleton_self _
    have one : d.sliceSizes 0 = 1 := d.slice_collapsed 0 (by rw [hc]; exact List.mem_singleton_self _)
    show d.start j I 0 + d.batchCoord j 0 + d.offCoord j 0 = r.val
    rw [d.offCoord_eq_zero j 0 hn, d.batchCoord_eq_zero j 0 (by rw [hb]; exact List.not_mem_nil)]
    simp only [GatherDims.start, dif_pos hm, hk, one]
    exact hr
  have place : (d.operandIdx j I 1).val = o.val := by
    have hm : (1 : Fin 2) ∈ d.sKept := by rw [kept]; exact List.mem_singleton_self _
    have hn : (1 : Fin 2) ∉ d.startIndexMap := by rw [hs]; exact fun h => absurd (List.mem_singleton.mp h).symm Fin.zero_ne_one
    show d.start j I 1 + d.batchCoord j 1 + d.offCoord j 1 = o.val
    rw [d.batchCoord_eq_zero j 1 (by rw [hb]; exact List.not_mem_nil)]
    have only : ∀ (m : List (Fin t.rank)) (n : ℕ) (hlt : n < m.length), m = [ax] → m[n] = ax := by
      rintro _ n hlt rfl
      exact List.mem_singleton.mp (List.getElem_mem hlt)
    simp only [GatherDims.start, dif_neg hn, GatherDims.offCoord, dif_pos hm, Nat.zero_add]
    rw [only d.offsetDims _ _ ho]
    exact hj
  refine congrArg E (funext fun b => Fin.ext ?_)
  fin_cases b
  · exact row
  · exact place

/-- The lookup in the type table, read at one entry: the row number read as a signed word and clamped into the table. -/
theorem typeGather_apply {α : Type} (E : S13x128.Idx → α) (I : IVec S4096x200x1 32) (a : Fin 4096) (l : Fin 200) (o : Fin 128) :
    Host.gather gather_S13x128_S4096x200x1_S4096x200x128_2_0_n_n_0_2_1128 E I (ix3 a l o)
      = E (ix2 (⟨min (I (ix3 a l 0)).toInt.toNat 12, by omega⟩ : Fin 13) o) :=
  rowGather gather_S13x128_S4096x200x1_S4096x200x128_2_0_n_n_0_2_1128 (ax := 2) rfl rfl rfl rfl E I (ix3 a l o) (ix3 a l 0)
    (fun q => by
      obtain rfl : q = ⟨0, by decide⟩ := Fin.ext (Nat.lt_one_iff.mp q.isLt)
      funext b; apply Fin.ext; fin_cases b <;> rfl) _ o rfl rfl

/-- The lookup in the position table, read at one entry. -/
theorem posGather_apply {α : Type} (P : S200x128.Idx → α) (I : IVec S200x1 32) (l : Fin 200) (o : Fin 128) :
    Host.gather gather_S200x128_S200x1_S200x128_1_0_n_n_0_1_1128 P I (ix2 l o)
      = P (ix2 (⟨min (I (ix2 l 0)).toInt.toNat 199, by omega⟩ : Fin 200) o) :=
  rowGather gather_S200x128_S200x1_S200x128_1_0_n_n_0_1_1128 (ax := 1) rfl rfl rfl rfl P I (ix2 l o) (ix2 l 0)
    (fun q => by
      obtain rfl : q = ⟨0, by decide⟩ := Fin.ext (Nat.lt_one_iff.mp q.isLt)
      funext b; apply Fin.ext; fin_cases b <;> rfl) _ o rfl rfl

/-- The row numbers the reference makes of the type words. -/
def safeT (T : IVec S4096x200 32) : IVec S4096x200 32 :=
  minsi (broadcastInDim S4096x200 ![] bcast_S_S4096x200 (id (constantI S_ 32 12#32)))
    (maxsi (broadcastInDim S4096x200 ![] bcast_S_S4096x200 (id (constantI S_ 32 0#32)))
      (select (cmpi .slt T (broadcastInDim S4096x200 ![] bcast_S_S4096x200 (constantI S_ 32 0#32)))
        (broadcastInDim S4096x200 ![] bcast_S_S4096x200 (id (constantI S_ 32 12#32))) T))

/-- The same with a negative number counted from the end, one to a unit axis, as the lookup takes them. -/
def typeNums (T : IVec S4096x200 32) : IVec S4096x200x1 32 :=
  broadcastInDim S4096x200x1 ![0, 1] bcast_S4096x200_S4096x200x1_0_1
    (select (cmpi .slt (safeT T) (broadcastInDim S4096x200 ![] bcast_S_S4096x200 (constantI S_ 32 0#32)))
      (addi (safeT T) (broadcastInDim S4096x200 ![] bcast_S_S4096x200 (constantI S_ 32 13#32))) (safeT T))

/-- Which type lookups pass the bounds test. -/
def typeOk (T : IVec S4096x200 32) : IVec S4096x200 1 :=
  Host.reduce IntOp.andi
    (andi (cmpi .sge (typeNums T) (broadcastInDim S4096x200x1 ![] bcast_S_S4096x200x1 (constantI S_ 32 0#32)))
      (cmpi .sle (typeNums T) (broadcastInDim S4096x200x1 ![0, 1, 2] bcast_S1x1x1_S4096x200x1_0_1_2
        (broadcastInDim S1x1x1 ![2] bcast_S1_S1x1x1_2 (constantI S1 32 12#32)))))
    (constantI S_ 1 1#1) reducesTo_S4096x200x1_S4096x200_d2 h_S_

/-- The position numbers, one to a unit axis. -/
def posNums : IVec S200x1 32 :=
  broadcastInDim S200x1 ![0] bcast_S200_S200x1_0
    (select (cmpi .slt (iotaInDim S200 32 0) (broadcastInDim S200 ![] bcast_S_S200 (constantI S_ 32 0#32)))
      (addi (iotaInDim S200 32 0) (broadcastInDim S200 ![] bcast_S_S200 (constantI S_ 32 200#32))) (iotaInDim S200 32 0))

/-- Which position lookups pass the bounds test. -/
def posOk : IVec S200 1 :=
  Host.reduce IntOp.andi
    (andi (cmpi .sge posNums (broadcastInDim S200x1 ![] bcast_S_S200x1 (constantI S_ 32 0#32)))
      (cmpi .sle posNums (broadcastInDim S200x1 ![0, 1] bcast_S1x1_S200x1_0_1
        (broadcastInDim S1x1 ![1] bcast_S1_S1x1_1 (constantI S1 32 199#32)))))
    (constantI S_ 1 1#1) reducesTo_S200x1_S200_d1 h_S_

theorem safeT_apply (T : IVec S4096x200 32) (a : Fin 4096) (l : Fin 200) : safeT T (ix2 a l) = row (T (ix2 a l)) := rfl

theorem typeNums_apply (T : IVec S4096x200 32) (a : Fin 4096) (l : Fin 200) :
    typeNums T (ix3 a l 0) = row (T (ix2 a l)) := by
  pointwise [typeNums]
  simp only [safeT_apply]
  exact (row_pass _).1

theorem typeOk_apply (T : IVec S4096x200 32) (a : Fin 4096) (l : Fin 200) : typeOk T (ix2 a l) = 1#1 := by
  pointwise [typeOk]
  simp only [Finset.univ_unique, Finset.fold_singleton, Fin.default_eq_zero, Fin.isValue, typeNums_apply]
  rw [(row_pass _).2.1, (row_pass _).2.2]
  rfl

theorem posNums_apply (l : Fin 200) : posNums (ix2 l 0) = BitVec.ofNat 32 l.val := by
  pointwise [posNums]
  exact (pos_pass l).1

theorem posOk_apply (l : Fin 200) : posOk (ix1 l) = 1#1 := by
  pointwise [posOk]
  simp only [Finset.univ_unique, Finset.fold_singleton, Fin.default_eq_zero, Fin.isValue, posNums_apply]
  rw [(pos_pass l).2.1, (pos_pass l).2.2.1]
  rfl

end Cert.ReferenceIdeal.Hand

end
-- ==== Proof.RefValue.lean ====
/- The reference's result at an index, in plain arithmetic: the type table's row for the type word, plus the nonnegative part of
   the parameters times the weights plus the bias, plus the position table's row. -/
module

public import proofs.«01_k».proof.Proof.RefRows

@[expose] public section

set_option maxRecDepth 16384

noncomputable section

namespace Cert.ReferenceIdeal.Hand

open Idealize.ShloMosaic Idealize.ShloMosaic.TcCoe
open Cert.ReferenceIdeal Cert.ReferenceIdeal.Gen Cert.Seq

/-- The type table's rows as the reference looks them up. -/
def typePart (T : IVec S4096x200 32) (E : FVec Ideal S13x128 .f32) : FVec Ideal S4096x200x128 .f32 :=
  select (broadcastInDim S4096x200x128 ![0, 1] bcast_S4096x200_S4096x200x128_0_1 (typeOk T))
    (Host.gather gather_S13x128_S4096x200x1_S4096x200x128_2_0_n_n_0_2_1128 E (typeNums T))
    (broadcastInDim S4096x200x128 ![] bcast_S_S4096x200x128 (constant S_ .f32 0x7FC00000#32))

/-- The product of the nonnegative parameters with the weights, and the bias. -/
def paramPart (X : FVec Ideal S4096x200x45 .f32) (W : FVec Ideal S45x128 .f32) (b : FVec Ideal S128 .f32) :
    FVec Ideal S4096x200x128 .f32 :=
  addf (Host.dotGeneral dot_S4096x200x45_S45x128_S4096x200x128_2_0_01_1_n_n none
      (select (cmpf .olt X (broadcastInDim S4096x200x45 ![] bcast_S_S4096x200x45 (constant S_ .f32 0x00000000#32)))
        (broadcastInDim S4096x200x45 ![] bcast_S_S4096x200x45 (id (constant S_ .f32 0x00000000#32))) X) W)
    (broadcastInDim S4096x200x128 ![0, 1, 2] bcast_S1x1x128_S4096x200x128_0_1_2
      (broadcastInDim S1x1x128 ![2] bcast_S128_S1x1x128_2 b))

/-- The position table's rows as the reference looks them up. -/
def posPart (P : FVec Ideal S200x128 .f32) : FVec Ideal S200x128 .f32 :=
  select (broadcastInDim S200x128 ![0] bcast_S200_S200x128_0 posOk)
    (Host.gather gather_S200x128_S200x1_S200x128_1_0_n_n_0_1_1128 P posNums)
    (broadcastInDim S200x128 ![] bcast_S_S200x128 (constant S_ .f32 0x7FC00000#32))

theorem typePart_apply (T : IVec S4096x200 32) (E : FVec Ideal S13x128 .f32) (a : Fin 4096) (l : Fin 200) (o : Fin 128) :
    typePart T E (ix3 a l o) = E (ix2 (rowIx (T (ix2 a l))) o) := by
  unfold typePart
  pointwise
  rw [typeOk_apply, typeGather_apply]
  rw [show ∀ x y : EReal, Scalar.select 1#1 x y = x from fun _ _ => rfl]
  refine congrArg (fun r => E (ix2 r o)) (Fin.ext ?_)
  show min (typeNums T (ix3 a l 0)).toInt.toNat 12 = (row (T (ix2 a l))).toInt.toNat
  rw [typeNums_apply]
  have := row_bounds (T (ix2 a l))
  omega

theorem paramPart_apply (X : FVec Ideal S4096x200x45 .f32) (W : FVec Ideal S45x128 .f32) (b : FVec Ideal S128 .f32)
    (a : Fin 4096) (l : Fin 200) (o : Fin 128) :
    paramPart X W b (ix3 a l o)
      = (∑ p : Fin 45, (if X (ix3 a l p) < 0 then 0 else X (ix3 a l p)) * W (ix2 p o)) + b (ix1 o) := by
  pointwise [paramPart, id_eq]

theorem posPart_apply (P : FVec Ideal S200x128 .f32) (l : Fin 200) (o : Fin 128) : posPart P (ix2 l o) = P (ix2 l o) := by
  unfold posPart
  pointwise
  rw [posOk_apply, posGather_apply]
  rw [show ∀ x y : EReal, Scalar.select 1#1 x y = x from fun _ _ => rfl]
  refine congrArg (fun r => P (ix2 r o)) (Fin.ext ?_)
  show min (posNums (ix2 l 0)).toInt.toNat 199 = l.val
  rw [posNums_apply, (pos_pass l).2.2.2]
  omega

/-- The whole result of the reference over its arguments. -/
def refOut (T : IVec S4096x200 32) (X : FVec Ideal S4096x200x45 .f32) (E : FVec Ideal S13x128 .f32)
    (W : FVec Ideal S45x128 .f32) (b : FVec Ideal S128 .f32) (P : FVec Ideal S200x128 .f32) : FVec Ideal S4096x200x128 .f32 :=
  addf (addf (typePart T E) (paramPart X W b))
    (broadcastInDim S4096x200x128 ![0, 1, 2] bcast_S1x200x128_S4096x200x128_0_1_2
      (broadcastInDim S1x200x128 ![1, 2] bcast_S200x128_S1x200x128_1_2 (posPart P)))

theorem refOut_apply (T : IVec S4096x200 32) (X : FVec Ideal S4096x200x45 .f32) (E : FVec Ideal S13x128 .f32)
    (W : FVec Ideal S45x128 .f32) (b : FVec Ideal S128 .f32) (P : FVec Ideal S200x128 .f32)
    (a : Fin 4096) (l : Fin 200) (o : Fin 128) :
    refOut T X E W b P (ix3 a l o)
      = (E (ix2 (rowIx (T (ix2 a l))) o)
          + ((∑ p : Fin 45, (if X (ix3 a l p) < 0 then 0 else X (ix3 a l p)) * W (ix2 p o)) + b (ix1 o)))
        + P (ix2 l o) := by
  pointwise [refOut, typePart_apply, paramPart_apply, posPart_apply]

/-- The reference's run leaves that result. -/
theorem res_eq (m : (ℓ : Loc nD τ sig) → Buf (Elt Ideal) ℓ) (c : Dev nD) :
    Value.res_main_v17 m c = refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.ReferenceIdeal.Hand

end
-- ==== Proof.Equal.lean ====
/- The two results are the same function of the arguments: the kernel adds position plus bias to the looked-up row where the
   reference adds the bias to the product and the position last, and the two ways of dropping negative parameters agree. -/
module

public import proofs.«01_k».proof.Proof.KernelValue
public import proofs.«01_k».proof.Proof.RefValue

@[expose] public section

set_option maxRecDepth 16384

noncomputable section

namespace Cert.Seq

open Idealize.ShloMosaic Idealize.ShloMosaic.TcCoe

/-- The larger of a number and zero is the number unless it is below zero. -/
theorem max_zero (x : EReal) : max x 0 = if x < 0 then 0 else x := by
  split
  · next h => exact max_eq_right h.le
  · next h => exact max_eq_left (not_lt.1 h)

/-- Four terms in the kernel's order and in the reference's. -/
theorem reorder (s e p b : EReal) : s + (e + (p + b)) = (e + (s + b)) + p := by ac_rfl

theorem ker_eq_ref (T : IVec KernelIdeal.S4096x200 32) (X : FVec Ideal KernelIdeal.S4096x200x45 .f32)
    (E : FVec Ideal KernelIdeal.S13x128 .f32) (W : FVec Ideal KernelIdeal.S45x128 .f32) (b : FVec Ideal KernelIdeal.S128 .f32)
    (P : FVec Ideal KernelIdeal.S200x128 .f32) (a : Fin 4096) (l : Fin 200) (o : Fin 128) :
    KernelIdeal.Hand.kerAt T X E W b P a l o = ReferenceIdeal.Hand.refOut T X E W b P (ix3 a l o) := by
  rw [ReferenceIdeal.Hand.refOut_apply]
  unfold KernelIdeal.Hand.kerAt
  rw [reorder]
  simp only [max_zero]

end Cert.Seq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equal
public import proofs.«01_k».proof.Proof.Bits.Run
public import Idealize.ShloMosaic.Adequacy
public import Idealize.ShloMosaic.Init

@[expose] public section

noncomputable section

namespace Cert.Proof

open Idealize.ShloMosaic Idealize.ShloMosaic.TcCoe Idealize.SL.Sem

/-- The kernel program runs at the word level, leaves its arguments alone and every counter at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Hand.run (F := Bits) m g)

/-- The same over exact arithmetic. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run (F := Ideal) m g)

/-- The reference runs, leaves its arguments alone, and has no counters. -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- What the reference leaves is what the kernel leaves, the arguments being equal. -/
theorem results_equal (m : (ℓ : Loc Cert.KernelIdeal.nD Cert.KernelIdeal.τ Cert.KernelIdeal.sig) → Buf (Elt Ideal) ℓ)
    (c : Dev Cert.KernelIdeal.nD) (T : IVec Cert.KernelIdeal.S4096x200 32) (X : FVec Ideal Cert.KernelIdeal.S4096x200x45 .f32)
    (E : FVec Ideal Cert.KernelIdeal.S13x128 .f32) (W : FVec Ideal Cert.KernelIdeal.S45x128 .f32)
    (b : FVec Ideal Cert.KernelIdeal.S128 .f32) (P : FVec Ideal Cert.KernelIdeal.S200x128 .f32)
    (hT : T = m ((c.tc : Thread Cert.KernelIdeal.nD Cert.KernelIdeal.τ).loc Cert.KernelIdeal.main_arg0))
    (hX : X = m ((c.tc : Thread Cert.KernelIdeal.nD Cert.KernelIdeal.τ).loc Cert.KernelIdeal.main_arg1))
    (hE : E = m ((c.tc : Thread Cert.KernelIdeal.nD Cert.KernelIdeal.τ).loc Cert.KernelIdeal.main_arg2))
    (hW : W = m ((c.tc : Thread Cert.KernelIdeal.nD Cert.KernelIdeal.τ).loc Cert.KernelIdeal.main_arg3))
    (hb : b = m ((c.tc : Thread Cert.KernelIdeal.nD Cert.KernelIdeal.τ).loc Cert.KernelIdeal.main_arg4))
    (hP : P = m ((c.tc : Thread Cert.KernelIdeal.nD Cert.KernelIdeal.τ).loc Cert.KernelIdeal.main_arg5)) :
    Cert.ReferenceIdeal.Hand.refOut T X E W b P = Cert.KernelIdeal.Hand.Gout m c := by
  subst hT hX hE hW hb hP
  funext i
  obtain ⟨a, l, o, rfl⟩ : ∃ (a : Fin 4096) (l : Fin 200) (o : Fin 128), i = ix3 a l o := ⟨i 0, i 1, i 2, eq_ix3 i⟩
  exact ((Cert.KernelIdeal.Hand.Gout_apply m c a l o).trans (Cert.Seq.ker_eq_ref _ _ _ _ _ _ a l o)).symm

/-- From equal arguments the two programs end with equal results, over exact arithmetic. -/
theorem algebraic : Cert.algebraic_KernelIdeal_ReferenceIdeal (hKernelIdeal := Cert.KernelIdeal.Gen.facts)
    (hReferenceIdeal := Cert.ReferenceIdeal.Gen.facts) := fun m g m' g' _ ag =>
  ⟨fun c => Cert.KernelIdeal.Hand.Gout m c,
    (θ_run Cert.KernelIdeal.defs _ _).mono (fun _ h => h.1) (Cert.KernelIdeal.Hand.run (F := Ideal) m g),
    (θ_run Cert.ReferenceIdeal.defs _ _).mono
      (fun _ h c => ⟨((h c).1.trans (Cert.ReferenceIdeal.Hand.res_eq m' c)).trans
        (results_equal m c _ _ _ _ _ _ (ag c).1 (ag c).2.1 (ag c).2.2.1 (ag c).2.2.2.1 (ag c).2.2.2.2.1 (ag c).2.2.2.2.2), (h c).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
